-- ==== Defs.lean ====
def Pre_Kernel [hPre_indices_in_vocab : Cert.Pre_indices_in_vocab.Facts] (m : (ℓ : Loc Cert.Kernel.nD Cert.Kernel.τ Cert.Kernel.sig) → Buf (Elt Bits) ℓ) : Prop :=
  ∀ c : Dev Cert.Kernel.nD,
    (Cert.Pre_indices_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_indices_in_vocab : Cert.Pre_indices_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_vocab [hPre_indices_in_vocab : Cert.Pre_indices_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_indices_in_vocab : Cert.Pre_indices_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_vocab [hReferenceIdeal : Cert.ReferenceIdeal.Facts] [hPre_indices_in_vocab : Cert.Pre_indices_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_in_vocab : Cert.Pre_indices_in_vocab.Facts),
    quiescent_Kernel (hKernel := hKernel) (hPre_indices_in_vocab := hPre_indices_in_vocab)
    ∧ quiescent_KernelIdeal (hKernelIdeal := hKernelIdeal) (hPre_indices_in_vocab := hPre_indices_in_vocab)
    ∧ quiescent_ReferenceIdeal (hReferenceIdeal := hReferenceIdeal)
    ∧ quiescent_ReferenceIdeal_pre_indices_in_vocab (hReferenceIdeal := hReferenceIdeal) (hPre_indices_in_vocab := hPre_indices_in_vocab)
    ∧ preserves_Kernel_KernelIdeal
    ∧ algebraic_KernelIdeal_ReferenceIdeal (hKernelIdeal := hKernelIdeal) (hReferenceIdeal := hReferenceIdeal) (hPre_indices_in_vocab := hPre_indices_in_vocab)
-- ==== Pre_indices_in_vocab.lean ====
abbrev S1024 : Shape := ⟨1, ![1024]⟩
abbrev S100000x64 : Shape := ⟨2, ![100000, 64]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x64 .f32) (main_arg2 : FVec F S64x128 .f32) (main_arg3 : FVec F S128 .f32) (main_arg4 : FVec F S128x100000 .f32) (main_arg5 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x64 : Shape := ⟨2, ![100000, 64]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S64x100000 : Shape := ⟨2, ![64, 100000]⟩
abbrev S51200x128 : Shape := ⟨2, ![51200, 128]⟩
abbrev S64x1024 : Shape := ⟨2, ![64, 1024]⟩
abbrev S1024x128 : Shape := ⟨2, ![1024, 128]⟩
abbrev S1024x64 : Shape := ⟨2, ![1024, 64]⟩
abbrev S_ : Shape := ⟨0, ![]⟩
abbrev S1x1024 : Shape := ⟨2, ![1, 1024]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S1024x1 : Shape := ⟨2, ![1024, 1]⟩
abbrev S100000x128 : Shape := ⟨2, ![100000, 128]⟩
abbrev S25x1x4000 : Shape := ⟨3, ![25, 1, 4000]⟩
abbrev S128x1 : Shape := ⟨2, ![128, 1]⟩
abbrev S128x1024 : Shape := ⟨2, ![128, 1024]⟩
abbrev S4000x128 : Shape := ⟨2, ![4000, 128]⟩
abbrev S1x1x4000 : Shape := ⟨3, ![1, 1, 4000]⟩
abbrev S1x4000 : Shape := ⟨2, ![1, 4000]⟩
abbrev S4000x1 : Shape := ⟨2, ![4000, 1]⟩
abbrev S4000x1024 : Shape := ⟨2, ![4000, 1024]⟩
abbrev S100000x1024 : Shape := ⟨2, ![100000, 1024]⟩
abbrev S1024x100000 : Shape := ⟨2, ![1024, 100000]⟩

abbrev nBuf : Table → Nat
  | .hbm => 26
  | .local .tc .vmem => 25
  | .local .scVector .vmem => 2
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S64x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S64x100000, .f32⟩
  | .hbm, ⟨7, _⟩ => ⟨S51200x128, .f32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1x1024, .i32⟩
  | .hbm, ⟨16, _⟩ => ⟨S1024x128, .f32⟩
  | .hbm, ⟨17, _⟩ => ⟨S1024, .f32⟩
  | .hbm, ⟨18, _⟩ => ⟨S1024x1, .f32⟩
  | .hbm, ⟨19, _⟩ => ⟨S100000x128, .f32⟩
  | .hbm, ⟨20, _⟩ => ⟨S25x1x4000, .f32⟩
  | .hbm, ⟨21, _⟩ => ⟨S128x1, .f32⟩
  | .hbm, ⟨22, _⟩ => ⟨S128x1024, .bf16⟩
  | .hbm, ⟨23, _⟩ => ⟨S1x1024, .f32⟩
  | .hbm, ⟨24, _⟩ => ⟨S100000x1024, .f32⟩
  | .hbm, ⟨25, _⟩ => ⟨S1024x100000, .f32⟩
  | .local .tc .vmem, ⟨0, _⟩ => ⟨S64x1024, .f32⟩
  | .local .tc .vmem, ⟨1, _⟩ => ⟨S64x1024, .f32⟩
  | .local .tc .vmem, ⟨2, _⟩ => ⟨S64x1024, .f32⟩
  | .local .tc .vmem, ⟨3, _⟩ => ⟨S64x1024, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x1, .f32⟩
  | .local .tc .vmem, ⟨8, _⟩ => ⟨S64x128, .f32⟩
  | .local .tc .vmem, ⟨9, _⟩ => ⟨S128x1, .f32⟩
  | .local .tc .vmem, ⟨10, _⟩ => ⟨S4000x128, .f32⟩
  | .local .tc .vmem, ⟨11, _⟩ => ⟨S4000x128, .f32⟩
  | .local .tc .vmem, ⟨12, _⟩ => ⟨S1x1x4000, .f32⟩
  | .local .tc .vmem, ⟨13, _⟩ => ⟨S1x1x4000, .f32⟩
  | .local .tc .vmem, ⟨14, _⟩ => ⟨S128x1024, .bf16⟩
  | .local .tc .vmem, ⟨15, _⟩ => ⟨S1x1024, .f32⟩
  | .local .tc .vmem, ⟨16, _⟩ => ⟨S1x1024, .f32⟩
  | .local .tc .vmem, ⟨17, _⟩ => ⟨S128x1024, .bf16⟩
  | .local .tc .vmem, ⟨18, _⟩ => ⟨S4000x128, .f32⟩
  | .local .tc .vmem, ⟨19, _⟩ => ⟨S4000x128, .f32⟩
  | .local .tc .vmem, ⟨20, _⟩ => ⟨S1x1x4000, .f32⟩
  | .local .tc .vmem, ⟨21, _⟩ => ⟨S1x1x4000, .f32⟩
  | .local .tc .vmem, ⟨22, _⟩ => ⟨S1x1024, .f32⟩
  | .local .tc .vmem, ⟨23, _⟩ => ⟨S4000x1024, .f32⟩
  | .local .tc .vmem, ⟨24, _⟩ => ⟨S4000x1024, .f32⟩
  | .local .scVector .vmem, ⟨0, _⟩ => ⟨S2x1x128, .i32⟩
  | .local .scVector .vmem, ⟨1, _⟩ => ⟨S2x128x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v1_scv : Ref sig .scVector := ⟨.hbm, 7, rfl⟩
abbrev main_v7_scv : Ref sig .scVector := ⟨.hbm, 15, rfl⟩
abbrev main_v8_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg4_1 : Ref sig .tc := ⟨.vmem, 11, rfl⟩
abbrev cc2_stg5_0 : Ref sig .tc := ⟨.vmem, 12, rfl⟩
abbrev cc2_stg5_1 : Ref sig .tc := ⟨.vmem, 13, rfl⟩
abbrev cc2_stg6_0 : Ref sig .tc := ⟨.vmem, 14, rfl⟩
abbrev cc2_stg7_0 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c50_i32 : BitVec 32 := 50#32
  let v0 : BitVec 32 := Scalar.addi arg0 c50_i32
  let c97_i32 : BitVec 32 := 97#32
  let v1 : BitVec 32 := Scalar.minsi v0 c97_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c0_i32_5_r0 : BitVec 32 := 0#32
  let v10_r0 : BitVec 1 := Scalar.cmpi .sgt v7 c0_i32_5_r0
  let v11_r0 : BitVec 32 := Scalar.extui v10_r0
  let c0_i32_6_r0 : BitVec 32 := 0#32
  let v12_r0 : BitVec 1 := Scalar.cmpi .ne v11_r0 c0_i32_6_r0
  v12_r0

def k1_cond2 (i : grid1.Coords) : BitVec 1 :=
  let true_22_r0 : BitVec 1 := 1#1
  let c1_i32_7_r0 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v13_r0 : BitVec 32 := Scalar.muli c1_i32_7_r0 v1
  let c0_i32_21_r0 : BitVec 32 := 0#32
  let v31_r0 : BitVec 1 := Scalar.cmpi .sgt v13_r0 c0_i32_21_r0
  let v32_r0 : BitVec 1 := Scalar.andi true_22_r0 v31_r0
  let true_23_r0 : BitVec 1 := 1#1
  let v33_r0 : BitVec 1 := Scalar.andi v32_r0 true_23_r0
  let v34_r0 : BitVec 32 := Scalar.extui v33_r0
  let c0_i32_25_r0 : BitVec 32 := 0#32
  let v35_r0 : BitVec 1 := Scalar.cmpi .ne v34_r0 c0_i32_25_r0
  v35_r0

def k1_off1 : Fin 3 → Nat :=
  let c0_i32_24_r0 : BitVec 32 := 0#32
  let c2_i32_r0 : BitVec 32 := 2#32
  let v76_r0 : BitVec 32 := Scalar.remui c0_i32_24_r0 c2_i32_r0
  let c0_i32_57_r0 : BitVec 32 := 0#32
  let c0_i32_58_r0 : BitVec 32 := 0#32
  ![v76_r0.toNat, 0, 0]
def k1_off2 (i : grid1.Coords) : Fin 2 → Nat :=
  let c0_i32_59_r0 : BitVec 32 := 0#32
  let c128_i32_r0 : BitVec 32 := 128#32
  let c0_i32_10_r0 : BitVec 32 := 0#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v16_r0 : BitVec 32 := Scalar.addi c0_i32_10_r0 v6
  let v77_r0 : BitVec 32 := Scalar.muli c128_i32_r0 v16_r0
  ![0, v77_r0.toNat]
def k1_off3 : Fin 1 → Nat :=
  let c0_i32_24_r0 : BitVec 32 := 0#32
  let c2_i32_r0 : BitVec 32 := 2#32
  let v76_r0 : BitVec 32 := Scalar.remui c0_i32_24_r0 c2_i32_r0
  ![v76_r0.toNat]
@[reducible] def k1_t1_loop (i : grid1.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_35_r0 : BitVec 32 := 1#32
  ⟨c0_i32_29_r0, v42_r0, c1_i32_35_r0⟩
def k1_off4 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k1_cond3 (i : grid1.Coords) (k1_t1 : Fin (k1_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k1_off5 (i : grid1.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k1_off6 (arg6_r0 : BitVec 32) : Fin 1 → Nat :=
  let c2_i32_101_r0 : BitVec 32 := 2#32
  let v163_r0 : BitVec 32 := Scalar.remui arg6_r0 c2_i32_101_r0
  ![v163_r0.toNat]
def k1_off7 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k1_cond4 (i : grid1.Coords) (k1_t1 : Fin (k1_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k1_off8 (i : grid1.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k1_off9 (arg7_r0 : BitVec 32) : Fin 1 → Nat :=
  let c2_i32_101_r0 : BitVec 32 := 2#32
  let v164_r0 : BitVec 32 := Scalar.remui arg7_r0 c2_i32_101_r0
  ![v164_r0.toNat]
def k1_off10 (arg8_r0 : BitVec 32) : Fin 3 → Nat :=
  let c2_i32_84_r0 : BitVec 32 := 2#32
  let v128_r0 : BitVec 32 := Scalar.remui arg8_r0 c2_i32_84_r0
  let c0_i32_101_r1 : BitVec 32 := 0#32
  let c0_i32_102_r1 : BitVec 32 := 0#32
  ![v128_r0.toNat, 0, 0]

def k1_chk2 (i : grid1.Coords) (k1_t1 : Fin (k1_t1_loop i).trips) (arg8_r0 : BitVec 32) : Prop :=
  (∀ (k1_h1 : k1_cond1 i = 1#1), ∀ a, (k1_off10 arg8_r0) a + S1x128x128.size a ≤ S2x128x128.size a)
theorem k1_off10_inb : ∀ (i : grid1.Coords) (k1_t1 : Fin (k1_t1_loop i).trips) (arg8_r0 : BitVec 32) (k1_hw2 : k1_chk2 i k1_t1 arg8_r0), ∀ (k1_h1 : k1_cond1 i = 1#1), ∀ a, (k1_off10 arg8_r0) a + S1x128x128.size a ≤ S2x128x128.size a := fun i k1_t1 arg8_r0 k1_hw2 k1_h1 => k1_hw2 k1_h1

def k1_off11 (arg7_r0 : BitVec 32) : Fin 3 → Nat :=
  let c2_i32_83_r0 : BitVec 32 := 2#32
  let v127_r0 : BitVec 32 := Scalar.remui arg7_r0 c2_i32_83_r0
  let c0_i32_103_r1 : BitVec 32 := 0#32
  let c0_i32_104_r1 : BitVec 32 := 0#32
  ![v127_r0.toNat, 0, 0]

def k1_chk3 (i : grid1.Coords) (k1_t1 : Fin (k1_t1_loop i).trips) (arg7_r0 : BitVec 32) : Prop :=
  (∀ (k1_h1 : k1_cond1 i = 1#1), ∀ a, (k1_off11 arg7_r0) a + S1x1x128.size a ≤ S2x1x128.size a)
theorem k1_off11_inb : ∀ (i : grid1.Coords) (k1_t1 : Fin (k1_t1_loop i).trips) (arg7_r0 : BitVec 32) (k1_hw3 : k1_chk3 i k1_t1 arg7_r0), ∀ (k1_h1 : k1_cond1 i = 1#1), ∀ a, (k1_off11 arg7_r0) a + S1x1x128.size a ≤ S2x1x128.size a := fun i k1_t1 arg7_r0 k1_hw3 k1_h1 => k1_hw3 k1_h1

def k1_off12 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k1_cond7 (i : grid1.Coords) (k1_t1 : Fin (k1_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k1_off13 (i : grid1.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k1_off14 (arg8_r0 : BitVec 32) : Fin 1 → Nat :=
  let c2_i32_101_r0 : BitVec 32 := 2#32
  let v163_r0 : BitVec 32 := Scalar.remui arg8_r0 c2_i32_101_r0
  ![v163_r0.toNat]
def k1_off15 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k1_cond9 (i : grid1.Coords) (k1_t1 : Fin (k1_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k1_off16 (i : grid1.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k1_off17 (arg9_r0 : BitVec 32) : Fin 1 → Nat :=
  let c2_i32_101_r0 : BitVec 32 := 2#32
  let v163_r0 : BitVec 32 := Scalar.remui arg9_r0 c2_i32_101_r0
  ![v163_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x128.size a ≤ S2x1x128.size a) ∧
  (∀ (k1_h1 : k1_cond1 i = 1#1), ∀ (k1_h3 : k1_cond3 i k1_t1 arg10_r0 = 1#1), ∀ a, (k1_off5 i arg10_r0) a + S1x128.size a ≤ S1x1024.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x128.size a ≤ S2x1x128.size a) ∧
  (∀ (k1_h1 : k1_cond1 i = 1#1), ∀ (k1_h4 : k1_cond4 i k1_t1 arg10_r0 = 1#1), ∀ a, (k1_off8 i arg10_r0) a + S1x128.size a ≤ S1x1024.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x128x128.size a ≤ S2x128x128.size a) ∧
  (∀ (k1_h1 : k1_cond1 i = 1#1), ∀ (k1_h7 : k1_cond7 i k1_t1 arg10_r0 = 1#1), ∀ a, (k1_off13 i arg10_r0) a + S128x128.size a ≤ S1024x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x128x128.size a ≤ S2x128x128.size a) ∧
  (∀ (k1_h1 : k1_cond1 i = 1#1), ∀ (k1_h9 : k1_cond9 i k1_t1 arg10_r0 = 1#1), ∀ a, (k1_off16 i arg10_r0) a + S128x128.size a ≤ S1024x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x128.size a ≤ S1x1024.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x128.size a ≤ S1x1024.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S128x128.size a ≤ S1024x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S128x128.size a ≤ S1024x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let v39_r0 : BitVec 32 := Scalar.addi c0_i32_29_r0 v38_r0
  let c1_i32_36_r0 : BitVec 32 := 1#32
  ⟨v42_r0, v39_r0, c1_i32_36_r0⟩
def k1_off18 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k1_cond10 (i : grid1.Coords) (k1_t2 : Fin (k1_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k1_t2
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k1_off19 (i : grid1.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k1_off20 (arg6_r0 : BitVec 32) : Fin 1 → Nat :=
  let c2_i32_101_r0 : BitVec 32 := 2#32
  let v163_r0 : BitVec 32 := Scalar.remui arg6_r0 c2_i32_101_r0
  ![v163_r0.toNat]
def k1_off21 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k1_cond11 (i : grid1.Coords) (k1_t2 : Fin (k1_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k1_t2
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k1_off22 (i : grid1.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k1_off23 (arg7_r0 : BitVec 32) : Fin 1 → Nat :=
  let c2_i32_101_r0 : BitVec 32 := 2#32
  let v164_r0 : BitVec 32 := Scalar.remui arg7_r0 c2_i32_101_r0
  ![v164_r0.toNat]
def k1_off24 (arg8_r0 : BitVec 32) : Fin 3 → Nat :=
  let c2_i32_84_r0 : BitVec 32 := 2#32
  let v128_r0 : BitVec 32 := Scalar.remui arg8_r0 c2_i32_84_r0
  let c0_i32_101_r2 : BitVec 32 := 0#32
  let c0_i32_102_r2 : BitVec 32 := 0#32
  ![v128_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x128x128.size a ≤ S2x128x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x128x128.size a ≤ S2x128x128.size a := fun i k1_t2 arg8_r0 k1_hw5 k1_h1 => k1_hw5 k1_h1

def k1_off25 (arg7_r0 : BitVec 32) : Fin 3 → Nat :=
  let c2_i32_83_r0 : BitVec 32 := 2#32
  let v127_r0 : BitVec 32 := Scalar.remui arg7_r0 c2_i32_83_r0
  let c0_i32_103_r2 : BitVec 32 := 0#32
  let c0_i32_104_r2 : BitVec 32 := 0#32
  ![v127_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x128.size a ≤ S2x1x128.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x128.size a ≤ S2x1x128.size a := fun i k1_t2 arg7_r0 k1_hw6 k1_h1 => k1_hw6 k1_h1

def k1_off26 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k1_cond14 (i : grid1.Coords) (k1_t2 : Fin (k1_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k1_t2
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k1_off27 (i : grid1.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k1_off28 (arg8_r0 : BitVec 32) : Fin 1 → Nat :=
  let c2_i32_101_r0 : BitVec 32 := 2#32
  let v163_r0 : BitVec 32 := Scalar.remui arg8_r0 c2_i32_101_r0
  ![v163_r0.toNat]
def k1_off29 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k1_cond16 (i : grid1.Coords) (k1_t2 : Fin (k1_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k1_t2
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k1_off30 (i : grid1.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k1_off31 (arg9_r0 : BitVec 32) : Fin 1 → Nat :=
  let c2_i32_101_r0 : BitVec 32 := 2#32
  let v163_r0 : BitVec 32 := Scalar.remui arg9_r0 c2_i32_101_r0
  ![v163_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x128.size a ≤ S2x1x128.size a) ∧
  (∀ (k1_h1 : k1_cond1 i = 1#1), ∀ (k1_h10 : k1_cond10 i k1_t2 arg10_r0 = 1#1), ∀ a, (k1_off19 i arg10_r0) a + S1x128.size a ≤ S1x1024.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x128.size a ≤ S2x1x128.size a) ∧
  (∀ (k1_h1 : k1_cond1 i = 1#1), ∀ (k1_h11 : k1_cond11 i k1_t2 arg10_r0 = 1#1), ∀ a, (k1_off22 i arg10_r0) a + S1x128.size a ≤ S1x1024.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x128x128.size a ≤ S2x128x128.size a) ∧
  (∀ (k1_h1 : k1_cond1 i = 1#1), ∀ (k1_h14 : k1_cond14 i k1_t2 arg10_r0 = 1#1), ∀ a, (k1_off27 i arg10_r0) a + S128x128.size a ≤ S1024x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x128x128.size a ≤ S2x128x128.size a) ∧
  (∀ (k1_h1 : k1_cond1 i = 1#1), ∀ (k1_h16 : k1_cond16 i k1_t2 arg10_r0 = 1#1), ∀ a, (k1_off30 i arg10_r0) a + S128x128.size a ≤ S1024x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x128.size a ≤ S1x1024.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x128.size a ≤ S1x1024.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S128x128.size a ≤ S1024x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S128x128.size a ≤ S1024x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c1_i32_41_r0 : BitVec 32 := 1#32
  let v50_r0 : BitVec 32 := Scalar.subi v7 c1_i32_41_r0
  let c1_i32_42_r0 : BitVec 32 := 1#32
  let v51_r0 : BitVec 32 := Scalar.muli c1_i32_42_r0 v1
  let c1_i32_44_r0 : BitVec 32 := 1#32
  let v53_r0 : BitVec 32 := Scalar.subi v51_r0 c1_i32_44_r0
  let v54_r0 : BitVec 1 := Scalar.cmpi .eq v50_r0 v53_r0
  let v74_r0 : BitVec 32 := Scalar.extui v54_r0
  let c0_i32_56_r0 : BitVec 32 := 0#32
  let v75_r0 : BitVec 1 := Scalar.cmpi .ne v74_r0 c0_i32_56_r0
  v75_r0

def k1_off32 (v44_3_r0 : BitVec 32) : Fin 3 → Nat :=
  let c2_i32_r0 : BitVec 32 := 2#32
  let v76_r0 : BitVec 32 := Scalar.remui v44_3_r0 c2_i32_r0
  let c0_i32_57_r0 : BitVec 32 := 0#32
  let c0_i32_58_r0 : BitVec 32 := 0#32
  ![v76_r0.toNat, 0, 0]

def k1_off33 (i : grid1.Coords) (v44_4_r0 : BitVec 32) : Fin 2 → Nat :=
  let c128_i32_r0 : BitVec 32 := 128#32
  let true_38_r0 : BitVec 1 := 1#1
  let c1_i32_37_r0 : BitVec 32 := 1#32
  let v45_r0 : BitVec 32 := Scalar.subi v44_4_r0 c1_i32_37_r0
  let v46_r0 : BitVec 32 := Scalar.select true_38_r0 v45_r0 v44_4_r0
  let c_m1_i32_39_r0 : BitVec 32 := 4294967295#32
  let v47_r0 : BitVec 1 := Scalar.cmpi .eq v46_r0 c_m1_i32_39_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_40_r0 : BitVec 32 := 1#32
  let v48_r0 : BitVec 32 := Scalar.subi v1 c1_i32_40_r0
  let v49_r0 : BitVec 32 := Scalar.select v47_r0 v48_r0 v46_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v55_r0 : BitVec 32 := Scalar.addi v49_r0 v6
  let v77_r0 : BitVec 32 := Scalar.muli c128_i32_r0 v55_r0
  let c0_i32_59_r0 : BitVec 32 := 0#32
  ![v77_r0.toNat, 0]

def k1_chk8 (i : grid1.Coords) (v44_4_r0 : BitVec 32) : Prop :=
  (∀ (k1_h1 : k1_cond1 i = 1#1), ∀ (k1_h18 : k1_cond18 i = 1#1), ∀ a, (k1_off33 i v44_4_r0) a + S128x128.size a ≤ S1024x128.size a)
theorem k1_off33_inb : ∀ (i : grid1.Coords) (v44_4_r0 : BitVec 32) (k1_hw8 : k1_chk8 i v44_4_r0), ∀ (k1_h1 : k1_cond1 i = 1#1), ∀ (k1_h18 : k1_cond18 i = 1#1), ∀ a, (k1_off33 i v44_4_r0) a + S128x128.size a ≤ S1024x128.size a := fun i v44_4_r0 k1_hw8 k1_h1 k1_h18 => k1_hw8 k1_h1 k1_h18

def k1_off34 (v44_3_r0 : BitVec 32) : Fin 1 → Nat :=
  let c2_i32_r0 : BitVec 32 := 2#32
  let v76_r0 : BitVec 32 := Scalar.remui v44_3_r0 c2_i32_r0
  ![v76_r0.toNat]
def k1_off35 (v44_3_r0 : BitVec 32) : Fin 3 → Nat :=
  let c2_i32_r0 : BitVec 32 := 2#32
  let v76_r0 : BitVec 32 := Scalar.remui v44_3_r0 c2_i32_r0
  let c0_i32_61_r0 : BitVec 32 := 0#32
  let c0_i32_62_r0 : BitVec 32 := 0#32
  ![v76_r0.toNat, 0, 0]

def k1_chk7 (i : grid1.Coords) (v44_3_r0 : BitVec 32) : Prop :=
  (∀ (k1_h1 : k1_cond1 i = 1#1), ∀ (k1_h18 : k1_cond18 i = 1#1), ∀ a, (k1_off32 v44_3_r0) a + S1x128x128.size a ≤ S2x128x128.size a) ∧
  (∀ (k1_h1 : k1_cond1 i = 1#1), ∀ (k1_h18 : k1_cond18 i = 1#1), ∀ a, (k1_off34 v44_3_r0) a + S1.size a ≤ S2.size a) ∧
  (∀ (k1_h1 : k1_cond1 i = 1#1), ∀ (k1_h18 : k1_cond18 i = 1#1), ∀ a, (k1_off35 v44_3_r0) a + S1x128x128.size a ≤ S2x128x128.size a)
theorem k1_off32_inb : ∀ (i : grid1.Coords) (v44_3_r0 : BitVec 32) (k1_hw7 : k1_chk7 i v44_3_r0), ∀ (k1_h1 : k1_cond1 i = 1#1), ∀ (k1_h18 : k1_cond18 i = 1#1), ∀ a, (k1_off32 v44_3_r0) a + S1x128x128.size a ≤ S2x128x128.size a := fun i v44_3_r0 k1_hw7 k1_h1 k1_h18 => k1_hw7.1 k1_h1 k1_h18
theorem k1_off34_inb : ∀ (i : grid1.Coords) (v44_3_r0 : BitVec 32) (k1_hw7 : k1_chk7 i v44_3_r0), ∀ (k1_h1 : k1_cond1 i = 1#1), ∀ (k1_h18 : k1_cond18 i = 1#1), ∀ a, (k1_off34 v44_3_r0) a + S1.size a ≤ S2.size a := fun i v44_3_r0 k1_hw7 k1_h1 k1_h18 => k1_hw7.2.1 k1_h1 k1_h18
theorem k1_off35_inb : ∀ (i : grid1.Coords) (v44_3_r0 : BitVec 32) (k1_hw7 : k1_chk7 i v44_3_r0), ∀ (k1_h1 : k1_cond1 i = 1#1), ∀ (k1_h18 : k1_cond18 i = 1#1), ∀ a, (k1_off35 v44_3_r0) a + S1x128x128.size a ≤ S2x128x128.size a := fun i v44_3_r0 k1_hw7 k1_h1 k1_h18 => k1_hw7.2.2 k1_h1 k1_h18

abbrev grid2 : Pipeline.Grid := ⟨1, ![25], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_13 : BitVec 32 := 0#32
  let v26 : BitVec 1 := Scalar.cmpi .ne v25 c0_i32_13
  v26

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x4000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x4000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x64 : Shape := ⟨2, ![100000, 64]⟩
abbrev S64x128 : Shape := ⟨2, ![64, 128]⟩
abbrev S128 : Shape := ⟨1, ![128]⟩
abbrev S128x100000 : Shape := ⟨2, ![128, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S1024x128 : Shape := ⟨2, ![1024, 128]⟩
abbrev S1x128 : Shape := ⟨2, ![1, 128]⟩
abbrev S1024x100000 : Shape := ⟨2, ![1024, 100000]⟩
abbrev S1x100000 : Shape := ⟨2, ![1, 100000]⟩

abbrev nBuf : Space → Nat
  | .hbm => 55
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S64x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x64, .f32⟩
  | .hbm, ⟨25, _⟩ => ⟨S1024x64, .i1⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S1024x128, .f32⟩
  | .hbm, ⟨30, _⟩ => ⟨S1x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x100000, .f32⟩
  | .hbm, ⟨37, _⟩ => ⟨S1x100000, .f32⟩
  | .hbm, ⟨38, _⟩ => ⟨S1024x100000, .f32⟩
  | .hbm, ⟨39, _⟩ => ⟨S1024x100000, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S1024x1, .f32⟩
  | .hbm, ⟨53, _⟩ => ⟨S1024x100000, .f32⟩
  | .hbm, ⟨54, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call2_cst : Ref sig .tc := ⟨.hbm, 40, rfl⟩
abbrev main_call2_v0 : Ref sig .tc := ⟨.hbm, 41, rfl⟩
abbrev main_call2_cst_0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_cst_1 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_v10 : Ref sig .tc := ⟨.hbm, 54, rfl⟩

abbrev nD : Nat := 1
abbrev τ : Topo := Topo.v7x

variable {F : FTy → Type} [FloatOps F]
-- ==== Proof.Setup.lean ====
/-
  What every module of this certificate shares: the program as the launch theorem sees it, the proof's user
  algebra (the handshakes' rounds, the pipelines' rounds, write mode, the transfers' counters), the locations of
  @main's arrays, and the values the arrays hold as functions of the launch memory.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.WriteMode
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels under the SparseCore launch: the three pipelines' over the bodies'. -/
abbrev ΛP : Labels := Pipeline.Sig Λ₀ (Fin 3) fun p => (pcfgs (F := F) p).Adm
/-- The SparseCore launch of the program's one call. -/
abbrev K : SparseCore.Cfg τ sig (ΛP (F := F)) 1 := sc (F := F)
/-- The bodies under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The user algebra -/

/-- The handshakes' rounds. -/
abbrev UH : Type := URounds (GSem nD τ sig) ℕ
/-- The pipelines' rounds. -/
abbrev UP : Type := URounds (GSem nD τ sig) Unit
variable (F) in
/-- Write mode beside the transfers' counters. -/
abbrev UW : Type := WmRA nD τ sig (Elt F) × Counters
variable (F) in
abbrev UU : Type := UH × (UP × UW F)

variable (F) in
/-- The resources of the proof. -/
abbrev MM : Type := MT nD τ sig (HIx 1) (Elt F) ℕ (UU F) ℕ

abbrev EH : Emb UH (MM F) := embL
abbrev EP : Emb UP (MM F) := (Emb.inl : Emb UP (UP × UW F)).trans embR
/-- Where write mode's algebra sits. -/
abbrev wmE : UEmb (WmRA nD τ sig (Elt F)) (UU F) :=
  ((UEmb.inl : UEmb (WmRA nD τ sig (Elt F)) (UW F)).trans (UEmb.inr : UEmb (UW F) (UP × UW F))).trans UEmb.inr

instance : (EP (F := F)).LandsIn (upEmb : UEmb _ (MM F)) := by unfold EP embR; infer_instance

/-! ## @main's arrays -/

abbrev tl (d : Dev nD) (b : Ref sig .tc) : Loc nD τ sig := (d.tc : Thread nD τ).loc b

end Cert.Proof

end
-- ==== Proof.TileWords.lean ====
/-
  The SparseCore call's task on one vector subcore: what a task takes and brings back, and its body. The task of
  core `c`, subcore `s < 8` copies its 128 row numbers in, gathers the rows they name out of the repacked table and
  copies them out to its 128 rows of the gathered array; the subcores at or past 8 do nothing. Both cores' subcores
  `s` write the same rows, so the gathered array is held in write mode, each core at half a share.
-/
module

public import proofs.«01_k».proof.Proof.Setup
public import Idealize.ShloMosaic.Lib.Pipeline.TableIdle
public import Idealize.ShloMosaic.Lib.ValueIdxCore

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The task's words, over the two cores and the eight subcores that work -/

/-- Core `c`'s subcore `s`. -/
def tileAt (c : Fin 2) (s : Fin 16) : grid1.Coords := fun | 0 => c | 1 => s

theorem tileAt_eta (L : grid1.Coords) : L = tileAt (L 0) (L 1) := by
  funext a; match a with | 0 => rfl | 1 => rfl

theorem tile_cond1_at : ∀ (c : Fin 2) (s : Fin 16), s.val < 8 → k1_cond1 (tileAt c s) = 1#1 := by decide +kernel
theorem tile_idle_at : ∀ (c : Fin 2) (s : Fin 16), ¬ s.val < 8 → ¬ k1_cond1 (tileAt c s) = 1#1 := by decide +kernel
theorem tile_cond2_at : ∀ (c : Fin 2) (s : Fin 16), s.val < 8 → k1_cond2 (tileAt c s) = 1#1 := by decide +kernel
theorem tile_trips1_at : ∀ (c : Fin 2) (s : Fin 16), s.val < 8 → (k1_t1_loop (tileAt c s)).trips = 1 := by decide +kernel
theorem tile_trips2_at : ∀ (c : Fin 2) (s : Fin 16), s.val < 8 → (k1_t2_loop (tileAt c s)).trips = 0 := by decide +kernel
theorem tile_conds_at : ∀ (c : Fin 2) (s : Fin 16), s.val < 8 → ∀ t,
    k1_cond3 (tileAt c s) t 0#32 = 0#1 ∧ k1_cond4 (tileAt c s) t 0#32 = 1#1 ∧ k1_cond7 (tileAt c s) t 0#32 = 1#1
      ∧ k1_cond9 (tileAt c s) t 0#32 = 0#1 := by decide +kernel
theorem tile_chks_at : ∀ (c : Fin 2) (s : Fin 16), s.val < 8 → ∀ t,
    k1_chk3 (tileAt c s) t 0#32 ∧ k1_chk2 (tileAt c s) t 0#32 ∧ k1_chk1 (tileAt c s) t 1#32 0#32 0#32 0#32 0#32 := by decide +kernel
theorem tile_ends_at : ∀ (c : Fin 2) (s : Fin 16), s.val < 8 →
    k1_chk7 (tileAt c s) 0#32 ∧ k1_chk8 (tileAt c s) 0#32 ∧ k1_cond18 (tileAt c s) = 1#1 := by decide +kernel
theorem tile_offs_at : ∀ (c : Fin 2) (s : Fin 16), s.val < 8 →
    k1_off2 (tileAt c s) = ![0, 128 * s.val] ∧ k1_off8 (tileAt c s) 0#32 = ![0, 128 * s.val]
      ∧ k1_off13 (tileAt c s) 0#32 = ![128 * s.val, 0] ∧ k1_off33 (tileAt c s) 0#32 = ![128 * s.val, 0] := by decide +kernel

theorem tile_one_at : ∀ (s : Fin 16), s.val < 8 → Scalar.select (Scalar.cmpi .slt (BitVec.ofNat 32 s.val) 8#32) 1#32 0#32 = 1#32 := by
  decide +kernel

theorem off1_eq : k1_off1 = ![0, 0, 0] := by decide +kernel
theorem off3_eq : k1_off3 = ![0] := by decide +kernel
theorem off7_eq : k1_off7 0#32 = ![0, 0, 0] := by decide +kernel
theorem off9_eq : k1_off9 0#32 = ![0] := by decide +kernel
theorem off10_eq : k1_off10 0#32 = ![0, 0, 0] := by decide +kernel
theorem off11_eq : k1_off11 0#32 = ![0, 0, 0] := by decide +kernel
theorem off12_eq : k1_off12 0#32 = ![0, 0, 0] := by decide +kernel
theorem off14_eq : k1_off14 0#32 = ![0] := by decide +kernel
theorem off34_eq : k1_off34 0#32 = ![0] := by decide +kernel
theorem off35_eq : k1_off35 0#32 = ![0, 0, 0] := by decide +kernel

/-- What a working subcore's words come to. -/
structure Works (L : grid1.Coords) : Prop where
  s : (L 1).val < 8
  cond1 : k1_cond1 L = 1#1
  cond2 : k1_cond2 L = 1#1
  trips1 : (k1_t1_loop L).trips = 1
  trips2 : (k1_t2_loop L).trips = 0
  cond3 : ∀ t, ¬ k1_cond3 L t 0#32 = 1#1
  cond4 : ∀ t, k1_cond4 L t 0#32 = 1#1
  cond7 : ∀ t, k1_cond7 L t 0#32 = 1#1
  cond9 : ∀ t, ¬ k1_cond9 L t 0#32 = 1#1
  chk3 : ∀ t, k1_chk3 L t 0#32
  chk2 : ∀ t, k1_chk2 L t 0#32
  chk1 : ∀ t, k1_chk1 L t 1#32 0#32 0#32 0#32 0#32
  chk7 : k1_chk7 L 0#32
  chk8 : k1_chk8 L 0#32
  cond18 : k1_cond18 L = 1#1
  one : Scalar.select (Scalar.cmpi .slt (BitVec.ofNat 32 (L 1).val) 8#32) 1#32 0#32 = 1#32
  off2 : k1_off2 L = ![0, 128 * (L 1).val]
  off8 : k1_off8 L 0#32 = ![0, 128 * (L 1).val]
  off13 : k1_off13 L 0#32 = ![128 * (L 1).val, 0]
  off33 : k1_off33 L 0#32 = ![128 * (L 1).val, 0]

theorem works_at (c : Fin 2) (s : Fin 16) (h : s.val < 8) : Works (tileAt c s) where
  s := h
  cond1 := tile_cond1_at c s h
  cond2 := tile_cond2_at c s h
  trips1 := tile_trips1_at c s h
  trips2 := tile_trips2_at c s h
  cond3 t := by rw [(tile_conds_at c s h t).1]; decide
  cond4 t := (tile_conds_at c s h t).2.1
  cond7 t := (tile_conds_at c s h t).2.2.1
  cond9 t := by rw [(tile_conds_at c s h t).2.2.2]; decide
  chk3 t := (tile_chks_at c s h t).1
  chk2 t := (tile_chks_at c s h t).2.1
  chk1 t := (tile_chks_at c s h t).2.2
  chk7 := (tile_ends_at c s h).1
  chk8 := (tile_ends_at c s h).2.1
  cond18 := (tile_ends_at c s h).2.2
  one := tile_one_at s h
  off2 := (tile_offs_at c s h).1
  off8 := (tile_offs_at c s h).2.1
  off13 := (tile_offs_at c s h).2.2.1
  off33 := (tile_offs_at c s h).2.2.2

theorem works (L : grid1.Coords) (h : (L 1).val < 8) : Works L := by
  rw [tileAt_eta L]; exact works_at _ _ h

end Cert.Proof

end
-- ==== Proof.Tile.lean ====
/-
  The SparseCore call's task on one vector subcore: what a task takes and brings back, and its body. The task of
  core `c`, subcore `s < 8` copies its 128 row numbers in, gathers the rows they name out of the repacked table and
  copies them out to its 128 rows of the gathered array; the subcores at or past 8 do nothing. Both cores' subcores
  `s` write the same rows, so the gathered array is held in write mode, each core at half a share.
-/
module

public import proofs.«01_k».proof.Proof.Setup
public import proofs.«01_k».proof.Proof.TileWords

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay ownBufs ownSems0 ownCells ownRefs mem_ownCells)
open Idealize.ShloMosaic.Scf Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "iV" => (Memref.whole main_v7_scv : Memref sig Kind.scVector Space.hbm S1x1024 EltTy.i32)
local notation "xV" => (Memref.whole main_v1_scv : Memref sig Kind.scVector Space.hbm S51200x128 EltTy.f32)
local notation "oV" => (Memref.whole main_v8_scv : Memref sig Kind.scVector Space.hbm S1024x128 EltTy.f32)
local notation "sV" => (Memref.whole cc1_scoped0 : Memref sig Kind.scVector Space.vmem S2x1x128 EltTy.i32)
local notation "rV" => (Memref.whole cc1_scoped2 : Memref sig Kind.scVector Space.vmem S2x128x128 EltTy.f32)

local notation:60 ℓ " ⇝[" I "]{" q "} " f:max " ⇒ " g:max " @ " W:max => willBeTo wmE ℓ I q f g W

/-! ## The values -/

/-- The targets of the gathered array: row `r` is the table's row its word names. -/
def tgt8 {d : Dev nD} (V7 : Buf (Elt F) (tl d main_v7)) (T1 : Tgt (Elt F) (tl d main_v1)) : Tgt (Elt F) (tl d main_v8) :=
  fun j : S1024x128.Idx => if h : (V7 (ix2 (n0 := 1) 0 (j 0)) : BitVec 32).toNat < 51200 then T1 (ix2 ⟨_, h⟩ (j 1)) else none

/-- Contents that meet the targets. -/
def Meets {ℓ : Loc nD τ sig} (f : Buf (Elt F) ℓ) (g : Tgt (Elt F) ℓ) : Prop := ∀ j u, g j = some u → f j = u

/-- Block `i` of the gathered array: rows `128 i` to `128 i + 127`, none at `i ≥ 8`. -/
def oSet (i : ℕ) : Finset S1024x128.Idx := Finset.univ.filter fun j => (j 0).val / 128 = i

section Tile

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

variable [FloatOps F]

/-! ## The memrefs the task's operations name -/

theorem inb_idx (i : ℕ) (h : i < 8) : ∀ a, (![0, 128 * i] : Fin 2 → ℕ) a + S1x128.size a ≤ S1x1024.size a := by
  intro a; match a with | 0 => simp | 1 => simp; omega
theorem inb_out (i : ℕ) (h : i < 8) : ∀ a, (![128 * i, 0] : Fin 2 → ℕ) a + S128x128.size a ≤ S1024x128.size a := by
  intro a; match a with | 0 => simp; omega | 1 => simp

/-- The task's 128 row numbers, the slot they land in, the same as a list; the slot the rows land in; the task's
    rows of the gathered array; the whole table. -/
abbrev idxM (i : ℕ) (h : i < 8) : Memref sig .scVector .hbm S1x128 .i32 :=
  (iV).slice (Rect.unit (s := S1x1024) ![0, 128 * i] S1x128.size (inb_idx i h)) (fun _ => rfl)
abbrev slotM : Memref sig .scVector .vmem S1x128 .i32 :=
  ((sV).slice (Rect.unit (s := S2x1x128) ![0, 0, 0] S1x1x128.size (by decide)) (fun _ => rfl)).squeeze S1x128 squeezes_S1x1x128_S1x128
abbrev listM : Memref sig .scVector .vmem S128 .i32 :=
  (slotM.slice (Rect.unit (s := S1x128) ![0, 0] S1x128.size inb_S1x128_S1x128_0_0) (fun _ => rfl)).squeeze S128 squeezes_S1x128_S128
abbrev rowsM : Memref sig .scVector .vmem S128x128 .f32 :=
  ((rV).slice (Rect.unit (s := S2x128x128) ![0, 0, 0] S1x128x128.size (by decide)) (fun _ => rfl)).squeeze S128x128 squeezes_S1x128x128_S128x128
abbrev outM (i : ℕ) (h : i < 8) : Memref sig .scVector .hbm S128x128 .f32 :=
  (oV).slice (Rect.unit (s := S1024x128) ![128 * i, 0] S128x128.size (inb_out i h)) (fun _ => rfl)
abbrev tabM : Memref sig .scVector .hbm S51200x128 .f32 :=
  (xV).slice (Rect.unit (s := S51200x128) ![0, 0] S51200x128.size inb_S51200x128_S51200x128_0_0) (fun _ => rfl)
/-- The cells: the row numbers', the gather's, the rows out's. -/
abbrev semA : DmaSem sig := ((cc1_scoped1.slice (Rect.unit (s := S2) ![0] S1.size (by decide))).squeeze S_ squeezes_S1_S_).sem
abbrev semB : DmaSem sig := cc1_scoped4.sem
abbrev semC : DmaSem sig := ((cc1_scoped3.slice (Rect.unit (s := S2) ![0] S1.size (by decide))).squeeze S_ squeezes_S1_S_).sem

/-- The working task's operations in order, at offsets `o`. -/
def tileOps (L : grid1.Coords) (t : Fin (k1_t1_loop L).trips)
    (o1 o7 o11 : Fin 3 → ℕ) (i1 : ∀ a, o1 a + S1x1x128.size a ≤ S2x1x128.size a) (i7 : ∀ a, o7 a + S1x1x128.size a ≤ S2x1x128.size a)
    (i11 : ∀ a, o11 a + S1x1x128.size a ≤ S2x1x128.size a)
    (o2 o8 : Fin 2 → ℕ) (i2 : ∀ a, o2 a + S1x128.size a ≤ S1x1024.size a) (i8 : ∀ a, o8 a + S1x128.size a ≤ S1x1024.size a)
    (o3 o9 o14 o34 : Fin 1 → ℕ) (i3 : ∀ a, o3 a + S1.size a ≤ S2.size a) (i9 : ∀ a, o9 a + S1.size a ≤ S2.size a)
    (i14 : ∀ a, o14 a + S1.size a ≤ S2.size a) (i34 : ∀ a, o34 a + S1.size a ≤ S2.size a)
    (o10 o12 o35 : Fin 3 → ℕ) (i10 : ∀ a, o10 a + S1x128x128.size a ≤ S2x128x128.size a) (i12 : ∀ a, o12 a + S1x128x128.size a ≤ S2x128x128.size a)
    (i35 : ∀ a, o35 a + S1x128x128.size a ≤ S2x128x128.size a)
    (o13 o33 : Fin 2 → ℕ) (i13 : ∀ a, o13 a + S128x128.size a ≤ S1024x128.size a) (i33 : ∀ a, o33 a + S128x128.size a ≤ S1024x128.size a) :
    Prog (TpuEff nD τ sig (Elt F) Λ₀ (.scVector ((L 0).castLE hcore1) ((L 1).castLE hsub1))) PUnit := do
  Prog.lift (.enqueueDma ((iV).slice (Rect.unit (s := S1x1024) o2 S1x128.size i2) (fun _ => rfl))
    (.here (((sV).slice (Rect.unit (s := S2x1x128) o1 S1x1x128.size i1) (fun _ => rfl)).squeeze S1x128 squeezes_S1x1x128_S1x128))
    (.dma ((cc1_scoped1.slice (Rect.unit (s := S2) o3 S1.size i3)).squeeze S_ squeezes_S1_S_).sem)
    (View.wordExact_bits rfl) ((View.wordExact_bits rfl).reshape _ _) ⟨Or.inl rfl, trivial⟩)
  let _ ← Prog.lift (TpuEff.assume (k1_chk3 L t 0#32) (k1_chk3.dec L t 0#32))
  let _ ← Prog.lift (TpuEff.assume (k1_chk2 L t 0#32) (k1_chk2.dec L t 0#32))
  let _ ← Prog.lift (TpuEff.assume (k1_chk1 L t 1#32 0#32 0#32 0#32 0#32) (k1_chk1.dec L t 1#32 0#32 0#32 0#32 0#32))
  Prog.lift (.waitDma2 ((cc1_scoped1.slice (Rect.unit (s := S2) o9 S1.size i9)).squeeze S_ squeezes_S1_S_).sem
    ((iV).slice (Rect.unit (s := S1x1024) o8 S1x128.size i8) (fun _ => rfl))
    (((sV).slice (Rect.unit (s := S2x1x128) o7 S1x1x128.size i7) (fun _ => rfl)).squeeze S1x128 squeezes_S1x1x128_S1x128)
    (View.wordExact_bits rfl) ((View.wordExact_bits rfl).reshape _ _))
  SparseCore.enqueueIndirectGather rfl tabM
    (((rV).slice (Rect.unit (s := S2x128x128) o10 S1x128x128.size i10) (fun _ => rfl)).squeeze S128x128 squeezes_S1x128x128_S128x128)
    gathers_S51200x128_S128x128
    (((((sV).slice (Rect.unit (s := S2x1x128) o11 S1x1x128.size i11) (fun _ => rfl)).squeeze S1x128 squeezes_S1x1x128_S1x128).slice
      (Rect.unit (s := S1x128) ![0, 0] S1x128.size inb_S1x128_S1x128_0_0) (fun _ => rfl)).squeeze S128 squeezes_S1x128_S128)
    rfl semB (View.wordExact_bits rfl) rfl (Or.inl rfl)
  SparseCore.waitIndirectGather semB tabM
    (((rV).slice (Rect.unit (s := S2x128x128) o10 S1x128x128.size i10) (fun _ => rfl)).squeeze S128x128 squeezes_S1x128x128_S128x128)
    (View.wordExact_bits rfl) ((View.wordExact_bits rfl).reshape _ _)
  Prog.lift (.enqueueDma
    (((rV).slice (Rect.unit (s := S2x128x128) o12 S1x128x128.size i12) (fun _ => rfl)).squeeze S128x128 squeezes_S1x128x128_S128x128)
    (.here ((oV).slice (Rect.unit (s := S1024x128) o13 S128x128.size i13) (fun _ => rfl)))
    (.dma ((cc1_scoped3.slice (Rect.unit (s := S2) o14 S1.size i14)).squeeze S_ squeezes_S1_S_).sem)
    ((View.wordExact_bits rfl).reshape _ _) (View.wordExact_bits rfl) ⟨Or.inl rfl, trivial⟩)
  let _ ← Prog.lift (TpuEff.assume (k1_chk8 L 0#32) (k1_chk8.dec L 0#32))
  let _ ← Prog.lift (TpuEff.assume (k1_chk7 L 0#32) (k1_chk7.dec L 0#32))
  Prog.lift (.waitDma2 ((cc1_scoped3.slice (Rect.unit (s := S2) o34 S1.size i34)).squeeze S_ squeezes_S1_S_).sem
    (((rV).slice (Rect.unit (s := S2x128x128) o35 S1x128x128.size i35) (fun _ => rfl)).squeeze S128x128 squeezes_S1x128x128_S128x128)
    ((oV).slice (Rect.unit (s := S1024x128) o33 S128x128.size i33) (fun _ => rfl))
    ((View.wordExact_bits rfl).reshape _ _) (View.wordExact_bits rfl))
  pure ⟨⟩

theorem inb_slotI : ∀ a, (![0, 0, 0] : Fin 3 → ℕ) a + S1x1x128.size a ≤ S2x1x128.size a := by decide
theorem inb_slotR : ∀ a, (![0, 0, 0] : Fin 3 → ℕ) a + S1x128x128.size a ≤ S2x128x128.size a := by decide
theorem inb_sem : ∀ a, (![0] : Fin 1 → ℕ) a + S1.size a ≤ S2.size a := by decide

/-- The working task, its offsets evaluated. -/
def tileProg (L : grid1.Coords) (h : (L 1).val < 8) (t : Fin (k1_t1_loop L).trips) :
    Prog (TpuEff nD τ sig (Elt F) Λ₀ (.scVector ((L 0).castLE hcore1) ((L 1).castLE hsub1))) PUnit :=
  tileOps L t ![0, 0, 0] ![0, 0, 0] ![0, 0, 0] inb_slotI inb_slotI inb_slotI ![0, 128 * (L 1).val] ![0, 128 * (L 1).val]
    (inb_idx _ h) (inb_idx _ h) ![0] ![0] ![0] ![0] inb_sem inb_sem inb_sem inb_sem ![0, 0, 0] ![0, 0, 0] ![0, 0, 0] inb_slotR inb_slotR inb_slotR
    ![128 * (L 1).val, 0] ![128 * (L 1).val, 0] (inb_out _ h) (inb_out _ h)

theorem tileOps_congr {L : grid1.Coords} (h : (L 1).val < 8) {t : Fin (k1_t1_loop L).trips}
    {o1 o7 o11 : Fin 3 → ℕ} {i1 i7 i11} {o2 o8 : Fin 2 → ℕ} {i2 i8} {o3 o9 o14 o34 : Fin 1 → ℕ} {i3 i9 i14 i34}
    {o10 o12 o35 : Fin 3 → ℕ} {i10 i12 i35} {o13 o33 : Fin 2 → ℕ} {i13 i33}
    (e1 : o1 = ![0, 0, 0]) (e7 : o7 = ![0, 0, 0]) (e11 : o11 = ![0, 0, 0]) (e2 : o2 = ![0, 128 * (L 1).val]) (e8 : o8 = ![0, 128 * (L 1).val])
    (e3 : o3 = ![0]) (e9 : o9 = ![0]) (e14 : o14 = ![0]) (e34 : o34 = ![0]) (e10 : o10 = ![0, 0, 0]) (e12 : o12 = ![0, 0, 0])
    (e35 : o35 = ![0, 0, 0]) (e13 : o13 = ![128 * (L 1).val, 0]) (e33 : o33 = ![128 * (L 1).val, 0]) :
    tileOps (F := F) L t o1 o7 o11 i1 i7 i11 o2 o8 i2 i8 o3 o9 o14 o34 i3 i9 i14 i34 o10 o12 o35 i10 i12 i35 o13 o33 i13 i33 = tileProg L h t := by
  subst e1 e7 e11 e2 e8 e3 e9 e14 e34 e10 e12 e35 e13 e33
  rfl

set_option maxHeartbeats 4000000 in
/-- A working subcore's task is those operations. -/
theorem kern_eq (hw : Works L) :
    cc1_kern (F := F) L xV (Memref.isWhole_whole _) iV (Memref.isWhole_whole _) oV (Memref.isWhole_whole _)
            sV (Memref.isWhole_whole _) cc1_scoped1 rV (Memref.isWhole_whole _) cc1_scoped3 cc1_scoped4 cc1_scoped5
      = tileProg L hw.s ⟨0, by rw [hw.trips1]; decide⟩ := by
  obtain ⟨hs, hc1, hc2, ht1, ht2, hc3, hc4, hc7, hc9, hk3, hk2, hk1, hk7, hk8, hc18, hone, ho2, ho8, ho13, ho33⟩ := hw
  have e1 : Scalar.muli 1#32 1#32 = 1#32 := by decide
  have e2 : Scalar.select (Scalar.andi 1#1 (Scalar.cmpi .sgt 1#32 0#32)) (Scalar.addi 0#32 1#32) 0#32 = 1#32 := by decide
  have e3 : ∀ v : BitVec 32, Scalar.cmpi .ne v v = 0#1 := fun v => by simp [Scalar.cmpi, IntOp.cmpi]
  have e4 : Scalar.select 1#1 (Scalar.subi 0#32 1#32) 0#32 = 4294967295#32 := by decide
  have e5 : Scalar.select (Scalar.cmpi .eq 4294967295#32 4294967295#32) (Scalar.subi 1#32 1#32) 4294967295#32 = 0#32 := by decide
  have e6 : Scalar.select 1#1 (Scalar.addi 0#32 1#32) 0#32 = 1#32 := by decide
  have e7 : Scalar.select (Scalar.cmpi .eq 1#32 1#32) 0#32 1#32 = 0#32 := by decide
  have e8 : ∀ v : BitVec 1, Scalar.select (Scalar.andi (Scalar.andi 0#1 v) 1#1) (Scalar.addi 0#32 1#32) 0#32 = 0#32 := by decide
  simp only [cc1_kern_eq_skeleton]; unfold cc1_kern_skel
  simp only [k1_part5_eq_skeleton, k1_part6_eq_skeleton]
  unfold k1_part5_skel k1_part6_skel
  simp only [dif_pos hc1, dif_pos hc2, dif_pos hc18, hone, e1, e2, bind_assoc, pure_bind, dite_eq_ite, ite_self]
  simp only [for_trips1_bind _ _ ht1]
  unfold k1_t1_body
  simp only [k1_part1_eq_skeleton, k1_part2_eq_skeleton]
  unfold k1_part1_skel k1_part2_skel
  simp only [dif_pos (hc4 _), dif_pos (hc7 _), dif_neg (hc3 _), dif_neg (hc9 _), bind_assoc, pure_bind, for_trips0_bind _ _ ht2, ite_self,
     e3, e4, e5, e6, e7, e8]

  have h0 : 0 < (k1_t1_loop L).trips := by rw [ht1]; decide
  refine Eq.trans (b := tileOps (F := F) L ⟨0, h0⟩ k1_off1 (k1_off7 0#32) (k1_off11 0#32) (k1_off1_inb L hc1 hc2)
      (k1_off7_inb L ⟨0, h0⟩ 1#32 0#32 0#32 0#32 0#32 (hk1 _) hc1 (hc4 _)) (k1_off11_inb L ⟨0, h0⟩ 0#32 (hk3 _) hc1)
      (k1_off2 L) (k1_off8 L 0#32) (k1_off2_inb L hc1 hc2) (k1_off8_inb L ⟨0, h0⟩ 1#32 0#32 0#32 0#32 0#32 (hk1 _) hc1 (hc4 _))
      k1_off3 (k1_off9 0#32) (k1_off14 0#32) (k1_off34 0#32) (k1_off3_inb L hc1 hc2) (k1_off9_inb L ⟨0, h0⟩ 1#32 0#32 0#32 0#32 0#32 (hk1 _) hc1 (hc4 _))
      (k1_off14_inb L ⟨0, h0⟩ 1#32 0#32 0#32 0#32 0#32 (hk1 _) hc1 (hc7 _)) (k1_off34_inb L 0#32 hk7 hc1 hc18)
      (k1_off10 0#32) (k1_off12 0#32) (k1_off35 0#32) (k1_off10_inb L ⟨0, h0⟩ 0#32 (hk2 _) hc1)
      (k1_off12_inb L ⟨0, h0⟩ 1#32 0#32 0#32 0#32 0#32 (hk1 _) hc1 (hc7 _)) (k1_off35_inb L 0#32 hk7 hc1 hc18)
      (k1_off13 L 0#32) (k1_off33 L 0#32) (k1_off13_inb L ⟨0, h0⟩ 1#32 0#32 0#32 0#32 0#32 (hk1 _) hc1 (hc7 _)) (k1_off33_inb L 0#32 hk8 hc1 hc18))
      ?_ ?_
  · unfold tileOps; rfl
  exact tileOps_congr hs off1_eq off7_eq off11_eq ho2 ho8 off3_eq off9_eq off14_eq off34_eq off10_eq off12_eq off35_eq ho13 ho33

set_option maxHeartbeats 4000000 in
/-- The others do nothing. -/
theorem kern_idle (h : ¬ (L 1).val < 8) :
    cc1_kern (F := F) L xV (Memref.isWhole_whole _) iV (Memref.isWhole_whole _) oV (Memref.isWhole_whole _)
            sV (Memref.isWhole_whole _) cc1_scoped1 rV (Memref.isWhole_whole _) cc1_scoped3 cc1_scoped4 cc1_scoped5 = pure ⟨⟩ := by
  have hc : ¬ k1_cond1 L = 1#1 := by rw [tileAt_eta L]; exact tile_idle_at _ _ h
  simp only [cc1_kern_eq_skeleton]; unfold cc1_kern_skel
  simp only [dif_neg hc, pure_bind]

/-! ## The subcore's own cells and buffers -/

abbrev gA (d : Dev nD) (L : grid1.Coords) : GSem nD τ sig := (thr d L, .dma semA)
abbrev gB (d : Dev nD) (L : grid1.Coords) : GSem nD τ sig := (thr d L, .dma semB)
abbrev gC (d : Dev nD) (L : grid1.Coords) : GSem nD τ sig := (thr d L, .dma semC)

omit [FloatOps F] in
theorem ownSems0_tile :
    (ownSems0 (thr d L) : sProp (MM F))
      = iprop(semVal (gA d L) 0 ∗ semVal (gB d L) 0 ∗ semVal (gC d L) 0
          ∗ bigSep ((((ownCells (thr d L)).erase (gA d L)).erase (gB d L)).erase (gC d L)) fun g => semVal g 0) := by
  unfold SparseCore.Cfg.ownSems0
  rw [SparseCore.bigSep_erase' ((mem_ownCells (g := gA d L)).mpr ⟨rfl, by
      show (SemLoc.dma semA : SemLoc sig).isScoped .scVector = true; decide⟩),
    SparseCore.bigSep_erase' (Finset.mem_erase.mpr ⟨by simp [gA, gB]; decide, (mem_ownCells (g := gB d L)).mpr ⟨rfl, by
      show (SemLoc.dma semB : SemLoc sig).isScoped .scVector = true; decide⟩⟩),
    SparseCore.bigSep_erase' (Finset.mem_erase.mpr ⟨by simp [gB, gC]; decide, Finset.mem_erase.mpr ⟨by simp [gA, gC]; decide,
      (mem_ownCells (g := gC d L)).mpr ⟨rfl, by show (SemLoc.dma semC : SemLoc sig).isScoped .scVector = true; decide⟩⟩⟩)]

omit [FloatOps F] in
theorem ownBufs_tile :
    (ownBufs (thr d L) : sProp (MM F))
      = iprop((∃ f, (thr d L).loc cc1_scoped0 ↦{fullShare} f) ∗ (∃ f, (thr d L).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ## What the copies move -/

section Values

variable {d}
variable (h : (L 1).val < 8) (V7 : Buf (Elt F) (tl d main_v7)) (fs : Buf (Elt F) ((thr d L).loc cc1_scoped0))

/-- The row numbers, landed in their slot. -/
abbrev slotAfter : Buf (Elt F) ((thr d L).loc cc1_scoped0) :=
  slotM.view.write (Elt F) fs ((idxM (L 1).val h).view.read (Elt F) V7) Finset.univ

omit [FloatOps F] in
/-- Entry `x` of the list is the row number of row `128 s + x`. -/
theorem list_read (x : S128.Idx) :
    (listM.view.read (Elt F) (slotAfter L h V7 fs) x : BitVec 32)
      = V7 (ix2 (n0 := 1) (n1 := 1024) 0 ⟨128 * (L 1).val + (x 0).val, by have : (x 0).val < 128 := (x 0).isLt; omega⟩) := by
  have hx : (x 0).val < 128 := (x 0).isLt
  have e : Shape.reshapeEquiv (s := S1x128) (s' := S128) (by decide) x = ix2 (n0 := 1) (n1 := 128) 0 (x 0) :=
    Shape.reshapeEquiv_eq_of_rowMajor _ (by
      rw [Shape.rowMajor_val_two, Shape.rowMajor_val_one]; show 0 * 128 + (x 0).val = (x 0).val; omega)
  change (slotM.view.read (Elt F) (slotM.view.write (Elt F) fs ((idxM (L 1).val h).view.read (Elt F) V7) Finset.univ)
    ((Rect.unit (s := S1x128) ![0, 0] S1x128.size inb_S1x128_S1x128_0_0).emb (Shape.reshapeEquiv (s := S1x128) (s' := S128) (by decide) x)) : BitVec 32) = _
  rw [View.read_write_univ, e]
  refine congrArg V7 (?_ : _ = (_ : S1x1024.Idx))
  funext a
  refine Fin.ext ?_
  match a with
  | 0 => rfl
  | 1 => show 128 * (L 1).val + 1 * (0 + 1 * (x 0).val) = 128 * (L 1).val + (x 0).val; omega

omit [FloatOps F] in
theorem list_inb (hV7 : ∀ j, (V7 j : BitVec 32).toNat < 51200) :
    ∀ x, (listM.view.read (Elt F) (slotAfter L h V7 fs) x : BitVec 32).toNat < S51200x128.size gathers_S51200x128_S128x128.axis := by
  intro x; rw [list_read]; exact hV7 _

omit [FloatOps F] in
/-- The row slot after the gather. -/
abbrev rowsAfter (V1 : Buf (Elt F) (tl d main_v1)) (hV7 : ∀ j, (V7 j : BitVec 32).toNat < 51200)
    (fr : Buf (Elt F) ((thr d L).loc cc1_scoped2)) : Buf (Elt F) ((thr d L).loc cc1_scoped2) :=
  rowsM.view.write (Elt F) fr (SparseCore.gatherPayload gathers_S51200x128_S128x128 (tabM.view.read (Elt F) V1)
    (SparseCore.rows (listM.view.read (Elt F) (slotAfter L h V7 fs)) rfl (list_inb L h V7 fs hV7))) Finset.univ

omit [FloatOps F] in
/-- The gathered rows meet their targets. -/
theorem rows_admitted (T1 : Tgt (Elt F) (tl d main_v1)) (V1 : Buf (Elt F) (tl d main_v1)) (hV1 : Meets V1 T1)
    (hV7 : ∀ j, (V7 j : BitVec 32).toNat < 51200) (fr : Buf (Elt F) ((thr d L).loc cc1_scoped2)) :
    (outM (L 1).val h).view.Admitted (Elt F) (tgt8 V7 T1)
      (rowsM.view.read (Elt F) (rowsAfter L h V7 fs V1 hV7 fr)) Finset.univ := by
  rw [rowsAfter, View.read_write_univ]
  intro x _ u hu
  have hx : (x 0).val < 128 := (x 0).isLt
  have hb : 128 * (L 1).val + (x 0).val < 1024 := by omega
  -- the row the list names
  have hrow : (SparseCore.rows (F := F) (listM.view.read (Elt F) (slotAfter L h V7 fs)) (rfl : S128.numel = 128) (list_inb L h V7 fs hV7) (x 0)).val
      = (V7 (ix2 (n0 := 1) (n1 := 1024) 0 ⟨128 * (L 1).val + (x 0).val, hb⟩) : BitVec 32).toNat := by
    show (listM.view.read (Elt F) (slotAfter L h V7 fs) _ : BitVec 32).toNat = _
    rw [list_read]
    refine congrArg (fun j : S1x1024.Idx => (V7 j : BitVec 32).toNat) ?_
    have e : (S128.rowMajor.symm ((x 0 : Fin 128).cast (by decide : (128 : ℕ) = S128.numel)) 0).val = (x 0).val := by
      rw [← Shape.rowMajor_val_one, Equiv.apply_symm_apply]; rfl
    funext a; refine Fin.ext ?_
    match a with
    | 0 => rfl
    | 1 => exact congrArg (128 * (L 1).val + ·) e
  have hu' : tgt8 V7 T1 (ix2 (n0 := 1024) (n1 := 128) ⟨128 * (L 1).val + (x 0).val, hb⟩ (x 1)) = some u := by
    rw [← hu]
    refine congrArg (tgt8 V7 T1) (?_ : (_ : S1024x128.Idx) = _)
    funext a; refine Fin.ext ?_
    match a with
    | 0 => show 128 * (L 1).val + (x 0).val = 128 * (L 1).val + 1 * (x 0).val; omega
    | 1 => show (x 1).val = 0 + 1 * (x 1).val; omega
  unfold tgt8 at hu'
  have hlt := hV7 (ix2 (n0 := 1) (n1 := 1024) 0 ⟨128 * (L 1).val + (x 0).val, hb⟩)
  have hu2 := (dif_pos hlt).symm.trans hu'
  refine (congrArg V1 (?_ : _ = (_ : S51200x128.Idx))).trans (hV1 _ _ hu2)
  funext a; refine Fin.ext ?_
  match a with
  | 0 =>
    refine Eq.trans ?_ hrow
    show 0 + 1 * _ = _
    rw [Nat.zero_add, Nat.one_mul]
    rfl
  | 1 =>
    show 0 + 1 * _ = (x 1).val
    rw [Nat.zero_add, Nat.one_mul]
    rfl

theorem set_outM : (outM (L 1).val h).view.set = oSet (L 1).val := by
  show Finset.univ.map (Rect.unit (s := S1024x128) ![128 * (L 1).val, 0] S128x128.size (inb_out _ h)).emb = _
  ext j
  have h0 : (j 0).val < 1024 := (j 0).isLt
  simp only [Finset.mem_map, Finset.mem_univ, true_and, oSet, Finset.mem_filter]
  constructor
  · rintro ⟨x, rfl⟩
    have hx : (x 0).val < 128 := (x 0).isLt
    show (128 * (L 1).val + 1 * (x 0).val) / 128 = (L 1).val
    omega
  · intro hj
    refine ⟨ix2 (n0 := 128) (n1 := 128) ⟨(j 0).val % 128, by omega⟩ (j 1), ?_⟩
    funext a; refine Fin.ext ?_
    match a with
    | 0 => show 128 * (L 1).val + 1 * ((j 0).val % 128) = (j 0).val; omega
    | 1 => show 0 + 1 * (j 1).val = (j 1).val; omega

end Values

set_option maxHeartbeats 4000000 in
theorem tile_body (hF : (K (F := F)).Facts) (hw : Works L) (O : CellTallies nD τ sig (HIx 1)) (W : Waits sig (HIx 1)) (hO : ∀ g, O g none = 0)
    (V7 : Buf (Elt F) (tl d main_v7)) (T1 : Tgt (Elt F) (tl d main_v1)) (f8 : Buf (Elt F) (tl d main_v8)) (q7 q1 q8 : PosShare TreeShare)
    (hV7 : ∀ j, (V7 j : BitVec 32).toNat < 51200) :
    iprop(levAts (K (F := F)).L (K (F := F)).lev ∗ (∃ ιwm : ℕ, wmInv wmE ιwm)
        ∗ ((∃ V1, ⌜Meets V1 T1⌝ ∗ tl d main_v1 ↦{q1} V1) ∗ (tl d main_v7 ↦{q7} V7)
            ∗ (tl d main_v8 ⇝[oSet (L 1).val]{q8} f8 ⇒ (tgt8 V7 T1) @ ∅))
        ∗ scopedBufs (thr d L) ∗ scopedSems0 (thr d L) ∗ owes (thr d L) O W)
      ⊢ wp frame (wpE (defs₀ (F := F)) 𝒱₀ (thr d L) none) Set.univ
          (cc1_kern L xV (Memref.isWhole_whole _) iV (Memref.isWhole_whole _) oV (Memref.isWhole_whole _)
            sV (Memref.isWhole_whole _) cc1_scoped1 rV (Memref.isWhole_whole _) cc1_scoped3 cc1_scoped4 cc1_scoped5)
          fun _ => iprop((tl d main_v8 ⇝[oSet (L 1).val]{q8} f8 ⇒ (tgt8 V7 T1) @ (oSet (L 1).val))
            ∗ scopedBufs (thr d L) ∗ scopedSems0 (thr d L)
            ∗ ∃ W', ⌜∀ p ∈ W', p ∈ W ∨ p.2 = none⌝ ∗ owes (thr d L) O W') := by
  obtain ⟨hs, t, ht⟩ := (⟨hw.s, _, kern_eq L hw⟩ : ∃ hs t, _ = tileProg (F := F) L hs t)
  have hk3 := hw.chk3 t; have hk2 := hw.chk2 t; have hk1 := hw.chk1 t; have hk7 := hw.chk7; have hk8 := hw.chk8
  rw [ht]; clear ht hw
  unfold tileProg tileOps
  rw [(K (F := F)).scopedBufs_V hF d (cV L) (jV L), SparseCore.Cfg.scopedSems0_V (Val := Elt F) d (cV L) (jV L), ownSems0_tile, ownBufs_tile]
  iintro ⟨#Hlv, ⟨%ιwm, #Hwm⟩, ⟨⟨%V1, %hV1, Hx⟩, Hi, Ho⟩, ⟨⟨%fs, Hs⟩, ⟨%fr, Hr⟩, Hbufs⟩, ⟨HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (show _ ⊢ ((iV).view.loc (thr d L) ↦{q7} V7 : sProp (MM F)) from .rfl) $$ Hi
  ihave Hs' := (show _ ⊢ ((sV).view.loc (thr d L) ↦{fullShare} fs : sProp (MM F)) from .rfl) $$ Hs
  sl_exec
  -- the gather: its source a share of the table, its list the landed row numbers
  ihave Hx1 := (pointsTo_split_subset (q := q1) (f := V1) (S := Finset.univ) (Finset.subset_univ tabM.view.set)).1 $$ Hx
  icases Hx1 with ⟨Hx, Hxr⟩
  ihave Hs1 := (pointsTo_split_subset (q := fullShare) (f := slotAfter L hs V7 fs) (S := Finset.univ) (Finset.subset_univ listM.view.set)).1 $$ [Hs']
  · iexact Hs'
  icases Hs1 with ⟨Hs, Hsr⟩
  ihave Hr1 := (pointsTo_split_subset (q := fullShare) (f := fr) (S := Finset.univ) (Finset.subset_univ rowsM.view.set)).1 $$ Hr
  icases Hr1 with ⟨Hr, Hrr⟩
  have hN : ∀ h : S51200x128.Gathers 0 S128x128, ∑ j, (rowsM.slice (S128x128.rowRect h.axis' j) (S128x128.stride_rowRect h.axis' j)).view.dmaCredit
      = rowsM.view.dmaCredit := by decide
  iapply (SparseCore.wp_indirectGatherLocal countersEmb 𝒱₀ (thr d L) none (hg := gathers_S51200x128_S128x128) (default : HIx 1)
      rowsM.view.dmaCredit (hN _) (by decide) (list_inb L hs V7 fs hV7)) $$ [Hx Hr Hs HB]
  · isplitl [Hx]; · iexact Hx
    isplitl [Hr]; · iexact Hr
    isplitl [Hs]; · iexact Hs
    iexact HB
  iintro Hfl
  sl_exec
  iapply (Transfers.wp_waitLocalO countersEmb 𝒱₀ (thr d L) none (default : HIx 1) (rfl : rowsM.view.dmaCredit = _)) $$ [Hfl HO]
  · isplitl [Hfl]; · iexact Hfl
    isplitl [HO]; · iexact HO
    iapply (Transfers.MayWaits.elim (SemLoc.dma semB)) $$ Hmw
  iintro ⟨⟨Hr, Hx, Hs⟩, HB, HO⟩
  ihave Hs' := (pointsTo_split_subset (q := fullShare) (f := slotAfter L hs V7 fs) (S := Finset.univ) (Finset.subset_univ listM.view.set)).2 $$ [Hs Hsr]
  · isplitl [Hs] <;> iassumption
  -- the rows out, into the gathered array held in write mode
  sl_exec
  imod (Transfers.flight_alloc countersEmb (N := (outM (L 1).val hs).view.amount (SemLoc.dma semC))
    (show 0 < (outM 0 (by decide)).view.amount (SemLoc.dma semC) by decide)
    iprop(((outM (L 1).val hs).view.loc (thr d L) ⇝[(outM (L 1).val hs).view.set]{q8} f8 ⇒ (tgt8 V7 T1) @ (∅ ∪ (outM (L 1).val hs).view.set))
      ∗ (rowsM.view.loc (thr d L) ↦[rowsM.view.set]{fullShare} rowsAfter L hs V7 fs V1 hV7 fr))
    (g := gC d L)) $$ HC with ⟨%γ, %δ, %κ, #Hinv, Hγ, Hδ⟩
  ihave Ho' := (show _ ⊢ ((outM (L 1).val hs).view.loc (thr d L) ⇝[(outM (L 1).val hs).view.set]{q8} f8 ⇒ (tgt8 V7 T1) @ ∅ : sProp (MM F)) by
    rw [set_outM]) $$ Ho
  iapply (wp_enqueueDma_willBeTo (emb := wmE) (ιwm := ιwm) 𝒱₀ (thr d L) none Set.univ (default : HIx 1) _ rfl
    (rows_admitted L hs V7 fs T1 V1 hV1 hV7 fr)) $$ [Hr Ho'] [Hγ]
  · isplitl [Hr]; · iexact Hr
    isplitr; · iexact Hwm
    iexact Ho'
  · iapply (Transfers.flight_creditUpdate countersEmb (δ := δ))
    isplitr; · iexact Hinv
    iexact Hγ
  iintro Hcred
  ihave Hfl := (Transfers.flight_intro countersEmb (thr d L) (κ := κ)) $$ [Hδ Hcred]
  · isplitr; · iexact Hinv
    isplitl [Hδ] <;> iassumption
  sl_exec
  ihave Hr2 := (Entails.of_eq (pointsTo_congr (q := fullShare) (ℓ := (thr d L).loc cc1_scoped2) (I := Finset.univ \ rowsM.view.set) (f := fr)
    (g := rowsAfter L hs V7 fs V1 hV7 fr) fun i hi => (View.write_of_not_mem _ _ _ fun hm => (Finset.mem_sdiff.mp hi).2 hm).symm)) $$ Hrr
  ihave Hr3 := (pointsTo_split_subset (q := fullShare) (f := rowsAfter L hs V7 fs V1 hV7 fr) (S := Finset.univ) (Finset.subset_univ rowsM.view.set)).2 $$ [Hfl_src Hr2]
  · isplitl [Hfl_src]; · iexact Hfl_src
    iexact Hr2
  ihave Ho2 := (show _ ⊢ (tl d main_v8 ⇝[oSet (L 1).val]{q8} f8 ⇒ (tgt8 V7 T1) @ (oSet (L 1).val) : sProp (MM F)) by
    rw [set_outM, Finset.empty_union]) $$ Hfl_dst
  sl_step
  isplitl [Ho2]; · iexact Ho2
  isplitl [Hs' Hr3 Hbufs]
  · isplitl [Hs']; · iexists _; iexact Hs'
    isplitl [Hr3]; · iexists _; iexact Hr3
    iexact Hbufs
  isplitl [HA HB Hfl Hsems]
  · isplitl [HA]; · iexact HA
    isplitl [HB]; · iexact HB
    isplitl [Hfl]; · iexact Hfl
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof

end
-- ==== Proof.Gather.lean ====
/-
  The SparseCore call as the launch sees it: the arrays it reads and writes as functions of the launch memory, what
  its start, its tasks and its end carry, the tasks' obligation, and how the TensorCore deals the three arrays to the
  32 tasks and puts the gathered array together again.
-/
module

public import proofs.«01_k».proof.Proof.Tile
public import Idealize.ShloMosaic.Lib.Pipeline.Value

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "iV" => (Memref.whole main_v7_scv : Memref sig Kind.scVector Space.hbm S1x1024 EltTy.i32)
local notation "xV" => (Memref.whole main_v1_scv : Memref sig Kind.scVector Space.hbm S51200x128 EltTy.f32)
local notation "oV" => (Memref.whole main_v8_scv : Memref sig Kind.scVector Space.hbm S1024x128 EltTy.f32)
local notation "sV" => (Memref.whole cc1_scoped0 : Memref sig Kind.scVector Space.vmem S2x1x128 EltTy.i32)
local notation "rV" => (Memref.whole cc1_scoped2 : Memref sig Kind.scVector Space.vmem S2x128x128 EltTy.f32)

local notation:60 ℓ " ⇝[" I "]{" q "} " f:max " ⇒ " g:max " @ " W:max => willBeTo wmE ℓ I q f g W

/-! ## The arrays as functions of the launch memory -/

section Values

variable (m : (ℓ : Loc nD τ sig) → Buf (Elt F) ℓ) (d : Dev nD)

/-- The embedding table with its axes exchanged. -/
def V0 : Buf (Elt F) (tl d main_v0) :=
  transpose S64x100000 [1, 0] (m (tl d main_arg1) : (⟨S100000x64, .f32⟩ : BufTy).Contents (Elt F)) transposes_S100000x64_S64x100000_1_0

/-- The bound the words are compared with, at every place. -/
def Vb : (⟨S1024, .i32⟩ : BufTy).Contents (Elt F) := broadcastInDim S1024 ![] bcast_S_S1024 (constantI S_ 32 51200#32)

variable [FloatOps F]

/-- Whether the word lies in the table's upper part. -/
def V3 : Buf (Elt F) (tl d main_v3) := cmpi .sge (m (tl d main_arg0) : (⟨S1024, .i32⟩ : BufTy).Contents (Elt F)) (Vb (F := F))

/-- The row of the repacked table that holds the word's embedding. -/
def V7 : Buf (Elt F) (tl d main_v7) :=
  shapeCast S1x1024 (select (V3 m d) (subi (m (tl d main_arg0) : (⟨S1024, .i32⟩ : BufTy).Contents (Elt F)) (Vb (F := F)))
    (m (tl d main_arg0))) shapeCasts_S1024_S1x1024

/-- The targets of the repacked table, of the table with its axes exchanged: row `n` holds embedding `n` in its first
    half and embedding `n + 51200`, where there is one, in its second. -/
def tgt1 {d : Dev nD} (V0 : Buf (Elt F) (tl d main_v0)) : Tgt (Elt F) (tl d main_v1) :=
  fun j : S51200x128.Idx =>
    if h : (j 1).val < 64 then
      some (V0 (ix2 (n0 := 64) (n1 := 100000) ⟨(j 1).val, h⟩ ⟨(j 0).val, Nat.lt_trans (j 0).isLt (by decide)⟩))
    else if h' : (j 0).val + 51200 < 100000 then
      some (V0 (ix2 (n0 := 64) (n1 := 100000) ⟨(j 1).val - 64, by have : (j 1).val < 128 := (j 1).isLt; omega⟩ ⟨(j 0).val + 51200, h'⟩))
    else none

abbrev T1 : Tgt (Elt F) (tl d main_v1) := tgt1 (V0 m d)
abbrev T8 : Tgt (Elt F) (tl d main_v8) := tgt8 (V7 m d) (T1 m d)

/-- What the proof asks of the launch memory: every word is the index of an embedding. -/
def PreOK : Prop := ∀ (d : Dev nD) (j : S1024.Idx), ((m (tl d main_arg0)) j : BitVec 32).toNat < 100000

theorem V7_apply (r : Fin 1024) :
    (V7 m d (ix2 (n0 := 1) 0 r) : BitVec 32)
      = Scalar.select (IntOp.cmpi .sge ((m (tl d main_arg0)) (ix1 r) : BitVec 32) 51200#32)
          (IntOp.subi ((m (tl d main_arg0)) (ix1 r) : BitVec 32) 51200#32) ((m (tl d main_arg0)) (ix1 r) : BitVec 32) := by
  unfold V7
  rw [shapeCast_apply _ _ _ (ix1 r) (by rw [Shape.rowMajor_val_one, Shape.rowMajor_val_two]; simp [ix1, ix2])]
  rfl

theorem sge_bound (w : BitVec 32) (hw : w.toNat < 100000) : IntOp.cmpi .sge w 51200#32 = BitVec.ofBool (decide (51200 ≤ w.toNat)) := by
  simp only [IntOp.cmpi, BitVec.sle_eq_decide]
  congr 1
  apply decide_eq_decide.mpr
  rw [BitVec.toInt_eq_toNat_cond, BitVec.toInt_eq_toNat_cond]
  simp only [BitVec.toNat_ofNat]
  omega

theorem V3_apply (hm : PreOK m) (j : S1024.Idx) :
    (V3 m d j : BitVec 1) = BitVec.ofBool (decide (51200 ≤ ((m (tl d main_arg0)) j : BitVec 32).toNat)) :=
  sge_bound _ (hm d j)

theorem sel_nat (w : BitVec 32) (h : w.toNat < 100000) :
    (Scalar.select (IntOp.cmpi .sge w 51200#32) (IntOp.subi w 51200#32) w).toNat = if 51200 ≤ w.toNat then w.toNat - 51200 else w.toNat := by
  rw [sge_bound w h]
  show BitVec.toNat (Scalar.select (BitVec.ofBool (decide (51200 ≤ w.toNat))) (w - 51200#32) w) = _
  by_cases hw : 51200 ≤ w.toNat
  · rw [if_pos hw, decide_eq_true hw]
    show (if BitVec.ofBool true = 1 then w - 51200#32 else w).toNat = _
    rw [if_pos (by decide), BitVec.toNat_sub]
    simp only [BitVec.toNat_ofNat]
    omega
  · rw [if_neg hw, decide_eq_false hw]
    show (if BitVec.ofBool false = 1 then w - 51200#32 else w).toNat = _
    rw [if_neg (by decide)]

theorem V7_nat (hm : PreOK m) (r : Fin 1024) :
    (V7 m d (ix2 (n0 := 1) 0 r) : BitVec 32).toNat
      = if 51200 ≤ ((m (tl d main_arg0)) (ix1 r) : BitVec 32).toNat then ((m (tl d main_arg0)) (ix1 r) : BitVec 32).toNat - 51200
        else ((m (tl d main_arg0)) (ix1 r) : BitVec 32).toNat :=
  (congrArg BitVec.toNat (V7_apply m d r)).trans (sel_nat _ (hm d _))

theorem V7_lt (hm : PreOK m) (j : S1x1024.Idx) : (V7 m d j : BitVec 32).toNat < 51200 := by
  have e : j = ix2 (n0 := 1) 0 (j 1) := by
    rw [eq_ix2 j]; congr 1; exact Fin.ext (by have : (j 0).val < 1 := (j 0).isLt; show (j 0).val = 0; omega)
  rw [e]
  refine lt_of_eq_of_lt (V7_nat m d hm (j 1)) ?_
  have h := hm d (ix1 (j 1))
  split <;> omega

end Values

/-! ## Shares -/

/-- The `k`-th piece of a share cut again and again: the left half, then the left half of what is left. -/
def piece (q : PosShare TreeShare) : ℕ → PosShare TreeShare
  | 0 => q.left
  | k + 1 => piece q.right k

/-- The half of the full share core `c` holds. -/
def half : ℕ → PosShare TreeShare
  | 0 => (fullShare : PosShare TreeShare).left
  | _ + 1 => (fullShare : PosShare TreeShare).right

local notation "𝕄" => MM F

theorem pointsTo_pieces {ℓ : Loc nD τ sig} (I : Finset (Idx ℓ)) (f : Buf (Elt F) ℓ) :
    ∀ (n : ℕ) (q : PosShare TreeShare), (ℓ ↦[I]{q} f : sProp 𝕄) ⊢ bigSep Finset.univ fun i : Fin n => ℓ ↦[I]{piece q i.val} f
  | 0, q => by
    rw [show (Finset.univ : Finset (Fin 0)) = ∅ from rfl, bigSep_empty]; iintro -; iempintro
  | n + 1, q => by
    rw [bigSep_univ_split (0 : Fin (n + 1)), show (Finset.univ.erase (0 : Fin (n + 1))) = Finset.univ.map (Fin.succEmb n) from by
      ext i; simp only [Finset.mem_erase, Finset.mem_univ, and_true, Finset.mem_map, true_and]; exact ⟨fun h => ⟨i.pred h, by simp⟩, fun ⟨k, h⟩ => h ▸ Fin.succ_ne_zero k⟩,
      bigSep_map]
    show _ ⊢ iprop((ℓ ↦[I]{q.left} f) ∗ bigSep Finset.univ fun i : Fin n => ℓ ↦[I]{piece q.right i.val} f)
    iintro H
    ihave H' := (pointsTo_share (PosShare.mem_left_op_right q)).1 $$ H
    icases H' with ⟨Hl, Hr⟩
    isplitl [Hl]; · iexact Hl
    iapply (pointsTo_pieces I f n q.right) $$ Hr

theorem bigSep_two (Φ : Fin 2 → sProp 𝕄) : bigSep Finset.univ Φ = iprop(Φ 0 ∗ Φ 1) := bigSep_fin_two Φ

theorem pointsTo_cores {ℓ : Loc nD τ sig} (f : Buf (Elt F) ℓ) :
    (ℓ ↦{fullShare} f : sProp 𝕄) ⊢ iprop((bigSep Finset.univ fun i : Fin 16 => ℓ ↦{piece (half 0) i.val} f) ∗ (bigSep Finset.univ fun i : Fin 16 => ℓ ↦{piece (half 1) i.val} f)) := by
  iintro H
  ihave H' := (pointsTo_share (PosShare.mem_left_op_right fullShare)).1 $$ H
  icases H' with ⟨Hl, Hr⟩
  isplitl [Hl]
  · iapply (pointsTo_pieces Finset.univ f 16 _) $$ Hl
  · iapply (pointsTo_pieces Finset.univ f 16 _) $$ Hr

theorem mono16 {Φ Ψ : Fin 16 → sProp 𝕄} (h : ∀ i, Φ i ⊢ Ψ i) : bigSep Finset.univ Φ ⊢ bigSep Finset.univ Ψ := bigSep_mono fun i _ => h i

/-! ## What the call carries -/

section Payload

variable [FloatOps F] (m : (ℓ : Loc nD τ sig) → Buf (Elt F) ℓ)

/-- What the task of core `c`, subcore `i` takes: shares of the repacked table and of the row numbers, and its block of
    the gathered array in write mode at the core's half. -/
def goP (d : Dev nD) (c i : ℕ) : sProp 𝕄 :=
  iprop((∃ V1, ⌜Meets V1 (T1 m d)⌝ ∗ tl d main_v1 ↦{piece (half c) i} V1) ∗ (tl d main_v7 ↦{piece (half c) i} V7 m d)
    ∗ (tl d main_v8 ⇝[oSet i]{half c} (m (tl d main_v8)) ⇒ (T8 m d) @ ∅))

/-- What it brings back: its block, written. -/
def tdP (d : Dev nD) (c i : ℕ) : sProp 𝕄 :=
  tl d main_v8 ⇝[oSet i]{half c} (m (tl d main_v8)) ⇒ (T8 m d) @ (oSet i)

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance

abbrev wmX : sProp 𝕄 := iprop(∃ ιwm : ℕ, wmInv (wmE (F := F)) ιwm)

def P : (K (F := F)).Pay (nD := nD) (Val := Elt F) (Name := ℕ) (U := UU F) where
  st := fun q d c => match q with | 0 => bigSep Finset.univ fun i : Fin 16 => goP m d c.val i.val
  dn := fun q d c => match q with | 0 => bigSep Finset.univ fun i : Fin 16 => tdP m d c.val i.val
  go := fun q d c i => match q with | 0 => goP m d c.val i.val
  td := fun q d c i => match q with | 0 => tdP m d c.val i.val
  x := fun _ _ => wmX

instance P_storable : (P m).IsStorable where
  st q d c := match q with
    | 0 => (inferInstance : BI.Storable (upEmb : UEmb _ 𝕄) (bigSep Finset.univ fun i : Fin 16 => goP m d c.val i.val))
  dn q d c := match q with
    | 0 => (inferInstance : BI.Storable (upEmb : UEmb _ 𝕄) (bigSep Finset.univ fun i : Fin 16 => tdP m d c.val i.val))
  go q d c i := match q with
    | 0 => (inferInstance : BI.Storable (upEmb : UEmb _ 𝕄) (goP m d c.val i.val))
  td q d c i := match q with
    | 0 => (inferInstance : BI.Storable (upEmb : UEmb _ 𝕄) (tdP m d c.val i.val))

theorem vecSplit : (K (F := F)).VecSplit' (P m) 0 := by
  intro d c
  show (bigSep Finset.univ fun i : Fin 16 => goP m d c.val i.val) ⊢ |={Set.univ}=> iprop(
    (bigSep Finset.univ fun i : Fin 16 => goP m d c.val i.val)
    ∗ ((bigSep Finset.univ fun i : Fin 16 => tdP m d c.val i.val) -∗ (bigSep Finset.univ fun i : Fin 16 => tdP m d c.val i.val)))
  iintro H; imodintro
  isplitl [H]; · iexact H
  iintro H; iexact H

/-! ## The tasks' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_kern (coordsV c s) xV (Memref.isWhole_whole _) iV (Memref.isWhole_whole _) oV (Memref.isWhole_whole _)
          sV (Memref.isWhole_whole _) cc1_scoped1 rV (Memref.isWhole_whole _) cc1_scoped3 cc1_scoped4 cc1_scoped5) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem oSet_empty (i : ℕ) (h : ¬ i < 8) : oSet i = ∅ := by
  apply Finset.filter_eq_empty_iff.mpr
  intro j _
  have : (j 0).val < 1024 := (j 0).isLt
  omega

set_option maxHeartbeats 2000000 in
/-- Every task's body, working or idle. -/
theorem any_tile (hm : PreOK m) (d : Dev nD) (L : grid1.Coords) (O : CellTallies nD τ sig (HIx 1)) (W : Waits sig (HIx 1)) (hO : ∀ g, O g none = 0) :
    iprop(levAts (K (F := F)).L (K (F := F)).lev ∗ wmX ∗ goP m d (L 0).val (L 1).val ∗ scopedBufs (thr d L) ∗ scopedSems0 (thr d L) ∗ owes (thr d L) O W)
      ⊢ wp frame (wpE (defs₀ (F := F)) 𝒱₀ (thr d L) none) Set.univ
          (cc1_kern L xV (Memref.isWhole_whole _) iV (Memref.isWhole_whole _) oV (Memref.isWhole_whole _)
            sV (Memref.isWhole_whole _) cc1_scoped1 rV (Memref.isWhole_whole _) cc1_scoped3 cc1_scoped4 cc1_scoped5)
          fun _ => iprop(tdP m d (L 0).val (L 1).val ∗ scopedBufs (thr d L) ∗ scopedSems0 (thr d L)
            ∗ ∃ W', ⌜∀ p ∈ W', p ∈ W ∨ p.2 = none⌝ ∗ owes (thr d L) O W') := by
  by_cases h : (L 1).val < 8
  · unfold goP tdP
    have key := tile_body d L scFacts (works L h) O W hO (V7 m d) (T1 m d) (m (tl d main_v8)) (piece (half (L 0).val) (L 1).val) (piece (half (L 0).val) (L 1).val) (half (L 0).val) (V7_lt m d hm)
    exact key
  · rw [kern_idle L h, wp_pure]
    unfold goP tdP
    iintro ⟨-, -, ⟨-, -, H8⟩, Hb, Hs, HO⟩
    imodintro
    isplitl [H8]
    · rw [oSet_empty _ h]; iexact H8
    isplitl [Hb]; · iexact Hb
    isplitl [Hs]; · iexact Hs
    iexists W; isplitr
    · ipureintro; exact fun p hp => .inl hp
    · iexact HO

set_option maxHeartbeats 1000000 in
set_option maxRecDepth 16384 in
theorem tileObl (hm : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (any_tile m hm d (coordsV ⟨_, hci.1⟩ ⟨_, hci.2⟩) O W hO).trans (wp_mono frame _ _ fun _ => obl_post)

/-! ## Dealing and gathering -/

theorem oSet_disjoint : ∀ i ∈ (Finset.univ : Finset (Fin 16)), ∀ j ∈ (Finset.univ : Finset (Fin 16)), i ≠ j → Disjoint (oSet i.val) (oSet j.val) :=
  fun i _ j _ h => Finset.disjoint_left.mpr fun x hx hy => h (Fin.ext ((Finset.mem_filter.mp hx).2.symm.trans (Finset.mem_filter.mp hy).2))

theorem oSet_cover : (Finset.univ : Finset (Fin 16)).biUnion (fun i => oSet i.val) = Finset.univ := by
  ext j
  simp only [Finset.mem_biUnion, Finset.mem_univ, true_and, iff_true]
  have h : (j 0).val < 1024 := (j 0).isLt
  exact ⟨⟨(j 0).val / 128, by omega⟩, Finset.mem_filter.mpr ⟨Finset.mem_univ _, rfl⟩⟩

theorem willBeTo_halves {ℓ : Loc nD τ sig} (I : Finset (Idx ℓ)) (f : Buf (Elt F) ℓ) (g : Tgt (Elt F) ℓ) (W : Finset (Idx ℓ)) :
    (ℓ ⇝[I]{fullShare} f ⇒ g @ W : sProp 𝕄) ⊣⊢ (ℓ ⇝[I]{half 0} f ⇒ g @ W) ∗ (ℓ ⇝[I]{half 1} f ⇒ g @ W) := by
  refine BI.Region.held_share (PosShare.mem_left_op_right fullShare) fun i _ => ?_
  have := Region.WB.mem_mk_op_mk (f i) (g i) (decide (i ∈ W)) (decide (i ∈ W))
  rwa [Bool.or_self] at this

/-- The three arrays, dealt to the tasks of both cores. -/
theorem deal (d : Dev nD) (V1 : Buf (Elt F) (tl d main_v1)) (hV1 : Meets V1 (T1 m d)) :
    iprop(wmX ∗ (tl d main_v1 ↦{fullShare} V1) ∗ (tl d main_v7 ↦{fullShare} V7 m d) ∗ (tl d main_v8 ↦{fullShare} m (tl d main_v8)))
      ⊢ |={Set.univ}=> (bigSep Finset.univ fun c : Fin 2 => bigSep Finset.univ fun i : Fin 16 => goP m d c.val i.val : sProp 𝕄) := by
  have e8 : (tl d main_v8 ↦{fullShare} m (tl d main_v8) : sProp 𝕄) = bigSep Finset.univ fun i : Fin 16 => tl d main_v8 ↦[oSet i.val]{fullShare} m (tl d main_v8) := by
    rw [← pointsTo_biUnion Finset.univ (ℓ := tl d main_v8) (fun i : Fin 16 => oSet i.val) oSet_disjoint, oSet_cover]; try rfl
  have hgo : ∀ c i : ℕ, iprop((tl d main_v1 ↦{piece (half c) i} V1) ∗ (tl d main_v7 ↦{piece (half c) i} V7 m d)
      ∗ (tl d main_v8 ⇝[oSet i]{half c} (m (tl d main_v8)) ⇒ (T8 m d) @ ∅)) ⊢ goP m d c i := fun c i => by
    unfold goP
    iintro ⟨H1, H7, H8⟩
    isplitl [H1]
    · iexists V1; isplitr
      · ipureintro; exact hV1
      · iexact H1
    isplitl [H7] <;> iassumption
  rw [e8, bigSep_two]
  iintro ⟨⟨%ιwm, #Hwm⟩, H1, H7, H8⟩
  ihave H1 := (pointsTo_cores (F := F) V1) $$ H1
  ihave H7 := (pointsTo_cores (F := F) (V7 m d)) $$ H7
  ihave Hw := (bigSep_of_persistent (Finset.univ : Finset (Fin 16)) (wmInv (wmE (F := F)) ιwm : sProp 𝕄)) $$ Hwm
  ihave H8 := (Entails.of_eq (bigSep_sep' (s := (Finset.univ : Finset (Fin 16))) (Φ := fun _ => (wmInv (wmE (F := F)) ιwm : sProp 𝕄))
    (Ψ := fun i : Fin 16 => (tl d main_v8 ↦[oSet i.val]{fullShare} m (tl d main_v8) : sProp 𝕄))).symm) $$ [Hw H8]
  · isplitl [Hw] <;> iassumption
  ihave H8 := (mono16 (Ψ := fun i => iprop(|={Set.univ}=> (tl d main_v8 ⇝[oSet i.val]{fullShare} (m (tl d main_v8)) ⇒ (T8 m d) @ ∅)))
    fun i => pointsTo_castIn (emb := wmE) (E := Set.univ) (ℓ := tl d main_v8) (I := oSet i.val) (T8 m d)) $$ H8
  imod (bigSep_fupd _ _) $$ H8 with H8
  imodintro
  ihave H8 := (mono16 fun i => (willBeTo_halves (ℓ := tl d main_v8) (oSet i.val) (m (tl d main_v8)) (T8 m d) ∅).1) $$ H8
  ihave H8 := (Entails.of_eq (bigSep_sep' (s := (Finset.univ : Finset (Fin 16)))
    (Φ := fun i : Fin 16 => (tl d main_v8 ⇝[oSet i.val]{half 0} (m (tl d main_v8)) ⇒ (T8 m d) @ ∅ : sProp 𝕄))
    (Ψ := fun i : Fin 16 => (tl d main_v8 ⇝[oSet i.val]{half 1} (m (tl d main_v8)) ⇒ (T8 m d) @ ∅ : sProp 𝕄)))) $$ H8
  icases H8 with ⟨H80, H81⟩
  icases H1 with ⟨H10, H11⟩
  icases H7 with ⟨H70, H71⟩
  isplitl [H80 H10 H70]
  · iapply (mono16 fun i => hgo 0 i.val)
    rw [bigSep_sep', bigSep_sep']
    isplitl [H10]; · iexact H10
    isplitl [H70]; · iexact H70
    iexact H80
  · iapply (mono16 fun i => hgo 1 i.val)
    rw [bigSep_sep', bigSep_sep']
    isplitl [H11]; · iexact H11
    isplitl [H71]; · iexact H71
    iexact H81

/-- The gathered array, whole again and meeting its targets. -/
theorem regain (d : Dev nD) :
    iprop(wmX ∗ (bigSep Finset.univ fun c : Fin 2 => bigSep Finset.univ fun i : Fin 16 => tdP m d c.val i.val))
      ⊢ |={Set.univ}=> (iprop(∃ V8, ⌜Meets V8 (T8 m d)⌝ ∗ tl d main_v8 ↦{fullShare} V8) : sProp 𝕄) := by
  have hout : ∀ ιwm : ℕ, ∀ i : ℕ, iprop(wmInv (wmE (F := F)) ιwm ∗ (tl d main_v8 ⇝[oSet i]{fullShare} (m (tl d main_v8)) ⇒ (T8 m d) @ (oSet i)))
      ⊢ |={Set.univ}=> (iprop(∃ f, ⌜∀ j ∈ oSet i, ∀ u, T8 m d j = some u → f j = u⌝ ∗ tl d main_v8 ↦[oSet i]{fullShare} f) : sProp 𝕄) := fun ιwm i => by
    iintro H
    imod (willBeTo_castOut (emb := wmE) (E := Set.univ)) $$ H with ⟨%f, %hf, H⟩
    imodintro
    iexists f; isplitr
    · ipureintro; exact fun j hj u hu => (hf j hj).2 hj u hu
    · iexact H
  rw [bigSep_two]
  iintro ⟨⟨%ιwm, #Hwm⟩, H0, H1⟩
  ihave H := (Entails.of_eq (bigSep_sep' (s := (Finset.univ : Finset (Fin 16))) (Φ := fun i : Fin 16 => tdP m d 0 i.val)
    (Ψ := fun i : Fin 16 => tdP m d 1 i.val)).symm) $$ [H0 H1]
  · isplitl [H0]; · iexact H0
    iexact H1
  ihave H := (mono16 (Φ := fun i => iprop(tdP m d 0 i.val ∗ tdP m d 1 i.val)) fun i => (willBeTo_halves (ℓ := tl d main_v8) (oSet i.val) (m (tl d main_v8)) (T8 m d) (oSet i.val)).2) $$ H
  ihave Hw := (bigSep_of_persistent (Finset.univ : Finset (Fin 16)) (wmInv (wmE (F := F)) ιwm : sProp 𝕄)) $$ Hwm
  ihave H := (Entails.of_eq (bigSep_sep' (s := (Finset.univ : Finset (Fin 16))) (Φ := fun _ => (wmInv (wmE (F := F)) ιwm : sProp 𝕄))
    (Ψ := fun i : Fin 16 => (tl d main_v8 ⇝[oSet i.val]{fullShare} (m (tl d main_v8)) ⇒ (T8 m d) @ (oSet i.val) : sProp 𝕄))).symm) $$ [Hw H]
  · isplitl [Hw] <;> iassumption
  ihave H := (mono16 fun i => hout ιwm i.val) $$ H
  imod (bigSep_fupd _ _) $$ H with H
  imodintro
  have : Nonempty (Buf (Elt F) (tl d main_v8)) := ⟨m (tl d main_v8)⟩
  ihave H := (bigSep_exists_pi Finset.univ (fun (i : Fin 16) (f : Buf (Elt F) (tl d main_v8)) =>
    iprop(⌜∀ j ∈ oSet i.val, ∀ u, T8 m d j = some u → f j = u⌝ ∗ tl d main_v8 ↦[oSet i.val]{fullShare} f))) $$ H
  icases H with ⟨%fs, H⟩
  ihave H := (bigSep_pure_sep _ _ _) $$ H
  icases H with ⟨%hfs, H⟩
  ihave H := (pointsTo_biUnion_join (ℓ := tl d main_v8) (q := fullShare) (Val := Elt F) Finset.univ (fun i : Fin 16 => oSet i.val) fs (fs 0) oSet_disjoint) $$ H
  icases H with ⟨%g, %hg, H⟩
  rw [oSet_cover]
  iexists g; isplitr
  · ipureintro
    intro j u hu
    obtain ⟨i, hi, hj⟩ := Finset.mem_biUnion.mp (oSet_cover ▸ Finset.mem_univ j)
    rw [hg i hi j hj]; exact hfs i hi j hj u hu
  · iexact H

end Payload

end Cert.Proof

end
-- ==== Proof.Repack.lean ====
/-
  The first TensorCore call: 50 points, each of which transposes one block of 1024 columns of the table from its first
  half and one from its second, puts them side by side and writes the 1024 rows back. The block that overhangs the
  table's end brings in columns nothing names, and the rows of the repacked table that hold them have no target.
-/
module

public import proofs.«01_k».proof.Proof.Gather
public import Idealize.ShloMosaic.Lib.VecWindow
public import Idealize.ShloMosaic.Lib.Pipeline.ClipFacts

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The body -/

theorem repack_run (d : Dev nD) (i : grid0.Coords) (arg1 : Memref sig .tc .vmem S64x1024 .f32) (harg1 : arg1.IsWhole)
    (arg2 : Memref sig .tc .vmem S64x1024 .f32) (harg2 : arg2.IsWhole) (arg3 : Memref sig .tc .vmem S1024x128 .f32) (harg3 : arg3.IsWhole)
    (Y0 Y1 : S64x1024.Idx → Elt F .f32) (Y2 : S1024x128.Idx → Elt F .f32) (Q : PUnit → sProp 𝕄) :
    iprop((owns (d.tc : Thread nD τ) arg1 fullShare Y0 ∗ owns (d.tc : Thread nD τ) arg2 fullShare Y1 ∗ owns (d.tc : Thread nD τ) arg3 fullShare Y2)
        ∗ (iprop(owns (d.tc : Thread nD τ) arg1 fullShare Y0 ∗ owns (d.tc : Thread nD τ) arg2 fullShare Y1
            ∗ owns (d.tc : Thread nD τ) arg3 fullShare (k0_pay1 Y0 Y1)) -∗ Q ⟨⟩))
      ⊢ wp frame (wpE (defs₀ (F := F)) 𝒱₀ (d.tc : Thread nD τ) none) Set.univ (cc0__repack_body i arg1 harg1 arg2 harg2 arg3 harg3) Q := by
  simp only [cc0__repack_body_eq_skeleton]; unfold cc0__repack_body_skel
  unfold owns
  iintro ⟨⟨⟨%f0, %hf0, H0⟩, ⟨%f1, %hf1, H1⟩, ⟨%f2, %hf2, H2⟩⟩, Hk⟩
  sl_exec
  sl_step
  iapply Hk
  isplitl [H0]
  · iexists f0; isplitr; · ipureintro; exact hf0
    iexact H0
  isplitl [H1]
  · iexists f1; isplitr; · ipureintro; exact hf1
    iexact H1
  iexists _; isplitr; swap; · iexact H2
  ipureintro
  subst hf0 hf1
  rw [View.read_writes_full, View.readAt_full, View.readAt_full]

/-! ## The data -/

section Data

variable (d : Dev nD) (V : (b : Ref sig .tc) → Buf (Elt F) ((d.tc : Thread nD τ).loc b)) (O : CellTallies nD τ sig (HIx 1)) (R : Set (SemLoc sig × HIx 1))

/-- What a point's block of the repacked table must hold: the targets that lie in it. -/
def outOK (t : Fin cfg0.N) (X : S1024x128.Idx → Elt F .f32) : Prop :=
  ∀ (r : Fin 1024) (c : Fin 128) (n : Fin 51200) (u : Elt F .f32), n.val = 1024 * t.val + r.val →
    tgt1 (d := d) (V main_v0) (ix2 (n0 := 51200) (n1 := 128) n c) = some u → X (ix2 (n0 := 1024) (n1 := 128) r c) = u

def rd0 : RDat τ (Elt F) (HIx 1) ℕ (UU F) ℕ cfg0 d where
  A w := V (Pipeline.arrRef spec0 w)
  after w t := match w with
    | ⟨0, _⟩ => fun Y X => X = Y
    | ⟨1, _⟩ => fun Y X => X = Y
    | ⟨2, _⟩ => fun _ X => outOK d V t X
  Φ _ := Pipeline.scopedRest spec0 d
  q w := match w with
    | ⟨0, _⟩ => fullShare.left
    | ⟨1, _⟩ => fullShare.right
    | ⟨2, _⟩ => fullShare
  owed _ := O
  recorded _ := R

/-! ## What the fetches bring -/

theorem coords0 (t : Fin cfg0.N) : (grid0.coords t 0).val = t.val := by
  rw [Pipeline.Grid.coords_val t 0 (S := 1) (B := 50) (by decide) rfl]
  have := t.isLt; have h : cfg0.N = 50 := N_0; omega

theorem ix0_0 (t : Fin cfg0.N) : cc0_transform_0 (grid0.coords t) = ![0, t.val] := by
  have h := coords0 t
  have := t.isLt; have hN : cfg0.N = 50 := N_0
  unfold cc0_transform_0
  funext a
  fin_cases a
  · rfl
  · show (BitVec.ofNat 32 (grid0.coords t 0).val).toNat = t.val
    rw [h, BitVec.toNat_ofNat]; omega

theorem ix0_2 (t : Fin cfg0.N) : cc0_transform_2 (grid0.coords t) = ![t.val, 0] := by
  have h := coords0 t
  have := t.isLt; have hN : cfg0.N = 50 := N_0
  unfold cc0_transform_2
  funext a
  fin_cases a
  · show (BitVec.ofNat 32 (grid0.coords t 0).val).toNat = t.val
    rw [h, BitVec.toNat_ofNat]; omega
  · rfl

theorem ix0_1_aux : ∀ x : Fin 50, (Scalar.minsi (Scalar.addi (BitVec.ofNat 32 x.val) 50#32) 97#32).toNat = min (x.val + 50) 97 := by decide

theorem ix0_1 (t : Fin cfg0.N) : cc0_transform_1 (grid0.coords t) = ![0, min (t.val + 50) 97] := by
  have h := coords0 t
  have hN : cfg0.N = 50 := N_0
  have ht : t.val < 50 := hN ▸ t.isLt
  unfold cc0_transform_1
  funext a
  fin_cases a
  · rfl
  · show (Scalar.minsi (Scalar.addi (BitVec.ofNat 32 (grid0.coords t 0).val) 50#32) 97#32).toNat = min (t.val + 50) 97
    rw [h]; exact ix0_1_aux ⟨t.val, ht⟩

theorem fetched0_0 (t : Fin cfg0.N) (dd) (k : Fin 64) (r : Fin 1024) (n : Fin 100000) (hn : n.val = 1024 * t.val + r.val) :
    (rd0 d V O R).fetched 0 t dd (ix2 (n0 := 64) (n1 := 1024) k r) = V main_v0 (ix2 (n0 := 64) (n1 := 100000) k n) := by
  have hN : cfg0.N = 50 := N_0
  have ht : t.val < 50 := hN ▸ t.isLt
  have hr := r.isLt
  unfold RDat.fetched Pipeline.Window.fill
  rw [dif_pos]
  · show V main_v0 _ = V main_v0 _
    congr 1
    funext a
    apply Fin.ext
    fin_cases a
    · show cc0_transform_0 (grid0.coords t) 0 * 64 + 1 * k.val = k.val
      rw [ix0_0]; simp
    · show cc0_transform_0 (grid0.coords t) 1 * 1024 + 1 * r.val = n.val
      rw [ix0_0]; simp; omega
  · rw [Pipeline.Window.moved_iff]
    intro a
    fin_cases a
    · show k.val < (Pipeline.Clip.of (cc0_transform_0 (grid0.coords t) 0) 64 64).extent 64
      rw [ix0_0, Pipeline.Clip.extent_of_inb (by simp)]; exact k.isLt
    · show r.val < (Pipeline.Clip.of (cc0_transform_0 (grid0.coords t) 1) 1024 100000).extent 1024
      rw [ix0_0, Pipeline.Clip.extent_of_inb (by simp; omega)]; exact r.isLt

theorem fetched0_1 (t : Fin cfg0.N) (ht : t.val ≤ 47) (dd) (k : Fin 64) (r : Fin 1024) (n : Fin 100000) (hn : n.val = 1024 * t.val + r.val + 51200) :
    (rd0 d V O R).fetched 1 t dd (ix2 (n0 := 64) (n1 := 1024) k r) = V main_v0 (ix2 (n0 := 64) (n1 := 100000) k n) := by
  have hr := r.isLt
  have hn' := n.isLt
  have hmin : min (t.val + 50) 97 = t.val + 50 := by omega
  have hi : win0_1.index t = ![0, min (t.val + 50) 97] := ix0_1 t
  unfold RDat.fetched Pipeline.Window.fill
  rw [dif_pos]
  · show V main_v0 _ = V main_v0 _
    congr 1
    funext a
    apply Fin.ext
    fin_cases a
    · refine (Pipeline.Window.rect_emb_val win0_1 t _ 0).trans ?_
      rw [hi]; show 0 * 64 + k.val = k.val; omega
    · refine (Pipeline.Window.rect_emb_val win0_1 t _ 1).trans ?_
      rw [hi]; show min (t.val + 50) 97 * 1024 + r.val = n.val; omega
  · rw [Pipeline.Window.moved_iff]
    intro a
    fin_cases a
    · show k.val < (Pipeline.Clip.of (cc0_transform_1 (grid0.coords t) 0) 64 64).extent 64
      rw [ix0_1, Pipeline.Clip.extent_of_inb (by simp)]; exact k.isLt
    · show r.val < (Pipeline.Clip.of (cc0_transform_1 (grid0.coords t) 1) 1024 100000).extent 1024
      rw [ix0_1]
      show r.val < (Pipeline.Clip.of (min (t.val + 50) 97) 1024 100000).extent 1024
      rw [hmin]
      unfold Pipeline.Clip.of
      split
      · exact r.isLt
      · show r.val < 100000 - (t.val + 50) * 1024
        omega

theorem fetch0_1 (t : Fin cfg0.N) (ht : t.val ≤ 47) : (cfg0.win 1).fetch t = true := by
  show win0_1.fetch t = true
  unfold Pipeline.Window.fetch
  by_cases h0 : t.val = 0
  · simp [h0]
  · have : ∃ h : 0 < t.val, win0_1.index t ≠ win0_1.index ⟨t.val - 1, Nat.lt_of_le_of_lt (Nat.sub_le _ _) t.isLt⟩ := by
      refine ⟨by omega, fun e => ?_⟩
      have e' := congrFun ((ix0_1 t).symm.trans (e.trans (ix0_1 ⟨t.val - 1, Nat.lt_of_le_of_lt (Nat.sub_le _ _) t.isLt⟩))) 1
      have e'' : min (t.val + 50) 97 = min (t.val - 1 + 50) 97 := e'
      omega
    simp [this]

/-! ## The block a point stores -/

theorem k0_pay1_left (Y0 Y1 : S64x1024.Idx → Elt F .f32) (r : Fin 1024) (c : Fin 128) (k : Fin 64) (hk : k.val = c.val) :
    k0_pay1 Y0 Y1 (ix2 (n0 := 1024) (n1 := 128) r c) = Y0 (ix2 (n0 := 64) (n1 := 1024) k r) := by
  unfold k0_pay1
  dsimp only
  refine (concatenate_pair_apply_left (t := S1024x128) (s₁ := S1024x64) (s₂ := S1024x64) 1 _ _ _ _ rfl (ix2 (n0 := 1024) (n1 := 64) r k)
    (by intro b; fin_cases b <;> [rfl; exact hk])).trans ?_
  rw [transpose_apply _ _ _ _ (ix2 (n0 := 64) (n1 := 1024) k r) (by intro b; fin_cases b <;> rfl), shapeCast_apply _ _ _ _ rfl]

theorem k0_pay1_right (Y0 Y1 : S64x1024.Idx → Elt F .f32) (r : Fin 1024) (c : Fin 128) (k : Fin 64) (hk : k.val + 64 = c.val) :
    k0_pay1 Y0 Y1 (ix2 (n0 := 1024) (n1 := 128) r c) = Y1 (ix2 (n0 := 64) (n1 := 1024) k r) := by
  unfold k0_pay1
  dsimp only
  refine (concatenate_pair_apply_right (t := S1024x128) (s₁ := S1024x64) (s₂ := S1024x64) 1 _ _ _ (ix2 (n0 := 1024) (n1 := 128) r c) rfl rfl (ix2 (n0 := 1024) (n1 := 64) r k)
    (by intro b hb; fin_cases b; · rfl
        · exact absurd rfl hb) hk).trans ?_
  rw [transpose_apply _ _ _ _ (ix2 (n0 := 64) (n1 := 1024) k r) (by intro b; fin_cases b <;> rfl), shapeCast_apply _ _ _ _ rfl]

/-- What a point stores has the targets, from blocks as the fetches leave them. -/
theorem outOK_pay (t : Fin cfg0.N) (Y0 Y1 : S64x1024.Idx → Elt F .f32) (h0 : (rd0 d V O R).Finds 0 t Y0) (h1 : (rd0 d V O R).Finds 1 t Y1) :
    outOK d V t (k0_pay1 Y0 Y1) := by
  intro r c n u hn hu
  have hN : cfg0.N = 50 := N_0
  have ht : t.val < 50 := hN ▸ t.isLt
  have hr := r.isLt
  have hc := c.isLt
  unfold tgt1 at hu
  obtain ⟨d0, rfl⟩ := ((rd0 d V O R).finds_of_fetch (fetch0_0 t) Y0).mp h0
  by_cases hlt : c.val < 64
  · rw [dif_pos hlt] at hu
    rw [k0_pay1_left _ _ r c ⟨c.val, hlt⟩ rfl]
    refine (fetched0_0 d V O R t d0 _ r _ hn).trans (Option.some.inj hu)
  · rw [dif_neg hlt] at hu
    split at hu
    · next hb =>
      have hb' : n.val + 51200 < 100000 := hb
      have ht' : t.val ≤ 47 := by omega
      obtain ⟨d1, rfl⟩ := ((rd0 d V O R).finds_of_fetch (fetch0_1 t ht') Y1).mp h1
      rw [k0_pay1_right _ _ r c ⟨c.val - 64, by omega⟩ (by show c.val - 64 + 64 = c.val; omega)]
      refine (fetched0_1 d V O R t ht' d1 _ r ⟨n.val + 51200, hb'⟩ ?_).trans (Option.some.inj hu)
      show n.val + 51200 = _
      omega
    · exact absurd hu (by simp)

/-! ## The repacked table after the write-backs -/

/-- After the write-backs below point `n` the first `1024 n` rows hold their targets. -/
theorem arrAt0 : ∀ (n : Nat) (hn : n ≤ 50) (G : Buf (Elt F) (tl d main_v1)) (hG : (rd0 d V O R).ArrAt 2 n G)
    (j : S51200x128.Idx) (u : Elt F .f32), (j 0).val < 1024 * n → tgt1 (d := d) (V main_v0) j = some u → G j = u
  | 0, _, G, _, j, u, hj, _ => absurd hj (by omega)
  | n + 1, hn, G, hG, j, u, hj, hu => by
    have hN : cfg0.N = 50 := N_0
    have hn' : n < cfg0.N := by omega
    have hi : win0_2.index ⟨n, hn'⟩ = ![n, 0] := ix0_2 ⟨n, hn'⟩
    rw [(rd0 d V O R).ArrAt_succ 2 ⟨n, hn'⟩, if_pos (flush0_2 _)] at hG
    obtain ⟨G0, X, hG0, ⟨Y, -, hX⟩, rfl⟩ := hG
    have hX' : outOK d V ⟨n, hn'⟩ X := hX
    by_cases hlt : (j 0).val < 1024 * n
    · have ih := arrAt0 n (by omega) G0 hG0 j u hlt hu
      refine (View.write_of_not_mem _ _ _ fun hm => ?_).trans ih
      obtain ⟨x, -, hx⟩ := Finset.mem_map.mp hm
      have h0 := (Pipeline.Window.rect_emb_val win0_2 ⟨n, hn'⟩ x 0).symm.trans (congrArg (fun y : S51200x128.Idx => (y 0).val) hx)
      rw [hi] at h0
      have h0' : n * 1024 + (x 0).val = (j 0).val := h0
      omega
    · have hb : (j 0).val - 1024 * n < 1024 := by omega
      have hj1 := (j 1).isLt
      have he : ((cfg0.win 2).blk ⟨n, hn'⟩).view.emb (ix2 (n0 := 1024) (n1 := 128) ⟨(j 0).val - 1024 * n, hb⟩ (j 1)) = j := by
        funext a
        apply Fin.ext
        fin_cases a
        · refine (Pipeline.Window.rect_emb_val win0_2 ⟨n, hn'⟩ _ 0).trans ?_
          rw [hi]; show n * 1024 + ((j 0).val - 1024 * n) = (j 0).val; omega
        · refine (Pipeline.Window.rect_emb_val win0_2 ⟨n, hn'⟩ _ 1).trans ?_
          rw [hi]; show 0 * 128 + (j 1).val = (j 1).val; omega
      have hv := View.write_emb_of_mem (v := ((cfg0.win 2).blk ⟨n, hn'⟩).view) (Val := Elt F) G0 ((cfg0.win 2).cut (cfg0.grid.coords ⟨n, hn'⟩) X)
        (Finset.mem_univ (ix2 (n0 := 1024) (n1 := 128) ⟨(j 0).val - 1024 * n, hb⟩ (j 1)))
      rw [he] at hv
      refine hv.trans ?_
      show X _ = u
      refine hX' ⟨(j 0).val - 1024 * n, hb⟩ (j 1) (j 0) u (by show (j 0).val = 1024 * n + ((j 0).val - 1024 * n); omega) ?_
      exact (congrArg (tgt1 (d := d) (V main_v0)) (eq_ix2 (n0 := 51200) (n1 := 128) j).symm).trans hu

/-! ## The body's obligation -/

theorem body0 : (rd0 d V O R).BodyObligation (defs₀ (F := F)) 𝒱₀ (none : HIx 1) Set.univ := fun t Y hY => by
  rw [bigSep_W0, bigSep_W0]
  show iprop(Pipeline.scopedRest spec0 d ∗ (rd0 d V O R).owesAt none t.castSucc
      ∗ owns (d.tc : Thread nD τ) (win0_0.stage (cfg0.slots t 0)) fullShare (Y 0)
      ∗ owns (d.tc : Thread nD τ) (win0_1.stage (cfg0.slots t 1)) fullShare (Y 1)
      ∗ owns (d.tc : Thread nD τ) (win0_2.stage (cfg0.slots t 2)) fullShare (Y 2))
    ⊢ wp frame (wpE (defs₀ (F := F)) 𝒱₀ (d.tc : Thread nD τ) none) Set.univ (bodyAt0 t) fun _ =>
        iprop(Pipeline.scopedRest spec0 d ∗ (rd0 d V O R).owesAt none t.castSucc
      ∗ (∃ X, ⌜(rd0 d V O R).after 0 t (Y 0) X⌝ ∗ owns (d.tc : Thread nD τ) (win0_0.stage (cfg0.slots t 0)) fullShare X)
      ∗ (∃ X, ⌜(rd0 d V O R).after 1 t (Y 1) X⌝ ∗ owns (d.tc : Thread nD τ) (win0_1.stage (cfg0.slots t 1)) fullShare X)
      ∗ (∃ X, ⌜(rd0 d V O R).after 2 t (Y 2) X⌝ ∗ owns (d.tc : Thread nD τ) (win0_2.stage (cfg0.slots t 2)) fullShare X))
  iintro ⟨HΦ, HO, H0, H1, H2⟩
  iapply (repack_run d (grid0.coords t) _ _ _ _ _ _ (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  iexists (k0_pay1 (Y 0) (Y 1)); isplitr
  · ipureintro; exact outOK_pay d V O R t (Y 0) (Y 1) (hY 0) (hY 1)
  iexact H2

/-- After the region the repacked table meets its targets. -/
theorem meets0 (G : Buf (Elt F) (tl d main_v1)) (hG : (rd0 d V O R).ArrAt 2 cfg0.N G) : Meets G (tgt1 (d := d) (V main_v0)) :=
  fun j u hu => arrAt0 d V O R 50 (le_refl _) G (show (rd0 d V O R).ArrAt 2 50 G from N_0 ▸ hG) j u (by have h : (j 0).val < 51200 := (j 0).isLt; omega) hu

end Data

end Cert.Proof

end
-- ==== Proof.Pass2.lean ====
/-
  The third TensorCore call: 25 points, each of which writes one block of 4000 rows of the transposed result from its
  block of the second layer's weights and biases, the whole hidden layer and the whole row of logarithms.
-/
module

public import proofs.«01_k».proof.Proof.Repack
public import Idealize.ShloMosaic.Lib.Pipeline.FrameBody

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## Blocks of the second layer -/

/-- Block `n` of the weights: rows `4000 n` on. -/
def blkW (W : S100000x128.Idx → Elt F .f32) (n : Fin 25) : S4000x128.Idx → Elt F .f32 := fun j =>
  W (ix2 (n0 := 100000) (n1 := 128) ⟨4000 * n.val + (j 0).val, by have h : (j 0).val < 4000 := (j 0).isLt; have := n.isLt; omega⟩ (j 1))

/-- Block `n` of the biases. -/
def blkB (B : S25x1x4000.Idx → Elt F .f32) (n : Fin 25) : S1x1x4000.Idx → Elt F .f32 := fun j =>
  B (ix3 (n0 := 25) (n1 := 1) (n2 := 4000) n (j 1) (j 2))

/-- The transposed result, from the weights, the hidden layer, the biases and the row of logarithms. -/
def outT (W : S100000x128.Idx → Elt F .f32) (H : S128x1024.Idx → Elt F .bf16) (B : S25x1x4000.Idx → Elt F .f32) (Lg : S1x1024.Idx → Elt F .f32) :
    S100000x1024.Idx → Elt F .f32 := fun j =>
  have h : (j 0).val < 100000 := (j 0).isLt
  k3_pay1 (blkW W ⟨(j 0).val / 4000, by omega⟩) H (blkB B ⟨(j 0).val / 4000, by omega⟩) Lg
    (ix2 (n0 := 4000) (n1 := 1024) ⟨(j 0).val % 4000, Nat.mod_lt _ (by decide)⟩ (j 1))

/-! ## The body -/

theorem pass2_run (d : Dev nD) (i : grid3.Coords) (arg1 : Memref sig .tc .vmem S128x1024 .bf16) (harg1 : arg1.IsWhole)
    (arg2 : Memref sig .tc .vmem S4000x128 .f32) (harg2 : arg2.IsWhole) (arg3 : Memref sig .tc .vmem S1x1x4000 .f32) (harg3 : arg3.IsWhole)
    (arg4 : Memref sig .tc .vmem S1x1024 .f32) (harg4 : arg4.IsWhole) (arg5 : Memref sig .tc .vmem S4000x1024 .f32) (harg5 : arg5.IsWhole)
    (Y0 : S128x1024.Idx → Elt F .bf16) (Y1 : S4000x128.Idx → Elt F .f32) (Y2 : S1x1x4000.Idx → Elt F .f32) (Y3 : S1x1024.Idx → Elt F .f32)
    (Y4 : S4000x1024.Idx → Elt F .f32) (Q : PUnit → sProp 𝕄) :
    iprop((owns (d.tc : Thread nD τ) arg1 fullShare Y0 ∗ owns (d.tc : Thread nD τ) arg2 fullShare Y1 ∗ owns (d.tc : Thread nD τ) arg3 fullShare Y2
          ∗ owns (d.tc : Thread nD τ) arg4 fullShare Y3 ∗ owns (d.tc : Thread nD τ) arg5 fullShare Y4)
        ∗ (iprop(owns (d.tc : Thread nD τ) arg1 fullShare Y0 ∗ owns (d.tc : Thread nD τ) arg2 fullShare Y1 ∗ owns (d.tc : Thread nD τ) arg3 fullShare Y2
          ∗ owns (d.tc : Thread nD τ) arg4 fullShare Y3 ∗ owns (d.tc : Thread nD τ) arg5 fullShare (k3_pay1 Y1 Y0 Y2 Y3)) -∗ Q ⟨⟩))
      ⊢ wp frame (wpE (defs₀ (F := F)) 𝒱₀ (d.tc : Thread nD τ) none) Set.univ
          (cc3__pass2_body i arg1 harg1 arg2 harg2 arg3 harg3 arg4 harg4 arg5 harg5) Q := by
  simp only [cc3__pass2_body_eq_skeleton]; unfold cc3__pass2_body_skel
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr; swap; · iexact H4
  ipureintro
  subst hf0 hf1 hf2 hf3
  rw [View.read_writes_full, View.readAt_full, View.readAt_full, View.readAt_full, View.readAt_full]

/-! ## The data -/

section Data

variable (d : Dev nD) (V : (b : Ref sig .tc) → Buf (Elt F) ((d.tc : Thread nD τ).loc b)) (O : CellTallies nD τ sig (HIx 1)) (R : Set (SemLoc sig × HIx 1))

/-- A point of the grid as a block number. -/
def pt3 (t : Fin cfg3.N) : Fin 25 := ⟨t.val, by have h : cfg3.N = 25 := N_3; have := t.isLt; omega⟩

/-- The block a point writes. -/
def blkOut (t : Fin cfg3.N) : S4000x1024.Idx → Elt F .f32 :=
  k3_pay1 (blkW (F := F) (V main_v11) (pt3 t)) (V main_v14_0) (blkB (F := F) (V main_v12) (pt3 t)) (V main_v14_1)

def rd2 : RDat τ (Elt F) (HIx 1) ℕ (UU F) ℕ cfg3 d where
  A w := V (Pipeline.arrRef spec3 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = blkOut d V t
  Φ _ := Pipeline.scopedRest spec3 d
  q _ := fullShare
  owed _ := O
  recorded _ := R

theorem coords3 (t : Fin cfg3.N) : (grid3.coords t 0).val = t.val := by
  rw [Pipeline.Grid.coords_val t 0 (S := 1) (B := 25) (by decide) rfl]
  have := t.isLt; have h : cfg3.N = 25 := N_3; omega

theorem ix3_0 (t : Fin cfg3.N) : cc3_transform_0 (grid3.coords t) = ![0, 0] := rfl
theorem ix3_3 (t : Fin cfg3.N) : cc3_transform_3 (grid3.coords t) = ![0, 0] := rfl

theorem ix3_1 (t : Fin cfg3.N) : cc3_transform_1 (grid3.coords t) = ![t.val, 0] := by
  have h := coords3 t
  have := t.isLt; have hN : cfg3.N = 25 := N_3
  unfold cc3_transform_1
  funext a
  fin_cases a
  · show (BitVec.ofNat 32 (grid3.coords t 0).val).toNat = t.val
    rw [h, BitVec.toNat_ofNat]; omega
  · rfl

theorem ix3_4 (t : Fin cfg3.N) : cc3_transform_4 (grid3.coords t) = ![t.val, 0] := ix3_1 t

theorem ix3_2 (t : Fin cfg3.N) : cc3_transform_2 (grid3.coords t) = ![t.val, 0, 0] := by
  have h := coords3 t
  have := t.isLt; have hN : cfg3.N = 25 := N_3
  unfold cc3_transform_2
  funext a
  fin_cases a
  · show (BitVec.ofNat 32 (grid3.coords t 0).val).toNat = t.val
    rw [h, BitVec.toNat_ofNat]; omega
  · rfl
  · rfl

theorem fetched3_0 (t : Fin cfg3.N) (dd) : (rd2 d V O R).fetched 0 t dd = V main_v14_0 := by
  have hi : win3_0.index t = ![0, 0] := ix3_0 t
  funext j
  unfold RDat.fetched Pipeline.Window.fill
  rw [dif_pos]
  · show V main_v14_0 _ = V main_v14_0 _
    congr 1
    funext a
    apply Fin.ext
    fin_cases a
    · refine (Pipeline.Window.rect_emb_val win3_0 t _ 0).trans ?_
      rw [hi]; show 0 * 128 + (j 0).val = (j 0).val; omega
    · refine (Pipeline.Window.rect_emb_val win3_0 t _ 1).trans ?_
      rw [hi]; show 0 * 1024 + (j 1).val = (j 1).val; omega
  · rw [Pipeline.Window.moved_iff]
    exact fun a => (j a).isLt

theorem fetched3_3 (t : Fin cfg3.N) (dd) : (rd2 d V O R).fetched 3 t dd = V main_v14_1 := by
  have hi : win3_3.index t = ![0, 0] := ix3_3 t
  funext j
  unfold RDat.fetched Pipeline.Window.fill
  rw [dif_pos]
  · show V main_v14_1 _ = V main_v14_1 _
    congr 1
    funext a
    apply Fin.ext
    fin_cases a
    · refine (Pipeline.Window.rect_emb_val win3_3 t _ 0).trans ?_
      rw [hi]; show 0 * 1 + (j 0).val = (j 0).val; omega
    · refine (Pipeline.Window.rect_emb_val win3_3 t _ 1).trans ?_
      rw [hi]; show 0 * 1024 + (j 1).val = (j 1).val; omega
  · rw [Pipeline.Window.moved_iff]
    exact fun a => (j a).isLt

theorem fetched3_1 (t : Fin cfg3.N) (dd) : (rd2 d V O R).fetched 1 t dd = blkW (F := F) (V main_v11) (pt3 t) := by
  have hi : win3_1.index t = ![t.val, 0] := ix3_1 t
  funext j
  unfold RDat.fetched Pipeline.Window.fill
  rw [dif_pos]
  · show V main_v11 _ = V main_v11 _
    congr 1
    funext a
    apply Fin.ext
    fin_cases a
    · refine (Pipeline.Window.rect_emb_val win3_1 t _ 0).trans ?_
      rw [hi]; show t.val * 4000 + (j 0).val = 4000 * t.val + (j 0).val; omega
    · refine (Pipeline.Window.rect_emb_val win3_1 t _ 1).trans ?_
      rw [hi]; show 0 * 128 + (j 1).val = (j 1).val; omega
  · rw [Pipeline.Window.moved_iff]
    exact fun a => (j a).isLt

theorem fetched3_2 (t : Fin cfg3.N) (dd) : (rd2 d V O R).fetched 2 t dd = blkB (F := F) (V main_v12) (pt3 t) := by
  have hi : win3_2.index t = ![t.val, 0, 0] := ix3_2 t
  funext j
  unfold RDat.fetched Pipeline.Window.fill
  rw [dif_pos]
  · show V main_v12 _ = V main_v12 _
    congr 1
    funext a
    apply Fin.ext
    fin_cases a
    · refine (Pipeline.Window.rect_emb_val win3_2 t _ 0).trans ?_
      rw [hi]
      have h0 : (j 0).val < 1 := (j 0).isLt
      show t.val * 1 + (j 0).val = t.val; omega
    · refine (Pipeline.Window.rect_emb_val win3_2 t _ 1).trans ?_
      rw [hi]; show 0 * 1 + (j 1).val = (j 1).val; omega
    · refine (Pipeline.Window.rect_emb_val win3_2 t _ 2).trans ?_
      rw [hi]; show 0 * 4000 + (j 2).val = (j 2).val; omega
  · rw [Pipeline.Window.moved_iff]
    exact fun a => (j a).isLt

/-- What a point stores is its block, from staging buffers as the fetches leave them. -/
theorem blkOut_pay (t : Fin cfg3.N) (Y : ∀ w : Fin cfg3.W, (cfg3.win w).block.Idx → Elt F (cfg3.win w).elt)
    (hY : ∀ w, (rd2 d V O R).Finds w t (Y w)) : k3_pay1 (Y 1) (Y 0) (Y 2) (Y 3) = blkOut d V t := by
  obtain ⟨d0, h0⟩ := (rd2 d V O R).finds_in_eq_fetched 0 rfl (fun _ _ _ => rfl) (fun _ _ _ h => h) t _ (hY 0)
  obtain ⟨d1, h1⟩ := (rd2 d V O R).finds_in_eq_fetched 1 rfl (fun _ _ _ => rfl) (fun _ _ _ h => h) t _ (hY 1)
  obtain ⟨d2, h2⟩ := (rd2 d V O R).finds_in_eq_fetched 2 rfl (fun _ _ _ => rfl) (fun _ _ _ h => h) t _ (hY 2)
  obtain ⟨d3, h3⟩ := (rd2 d V O R).finds_in_eq_fetched 3 rfl (fun _ _ _ => rfl) (fun _ _ _ h => h) t _ (hY 3)
  rw [h0.trans (fetched3_0 d V O R t d0), h1.trans (fetched3_1 d V O R t d1), h2.trans (fetched3_2 d V O R t d2), h3.trans (fetched3_3 d V O R t d3)]
  rfl

/-- After the write-backs below point `n` the first `4000 n` rows hold the result. -/
theorem arrAt2 : ∀ (n : Nat) (hn : n ≤ 25) (G : Buf (Elt F) (tl d main_v15)) (hG : (rd2 d V O R).ArrAt 4 n G)
    (j : S100000x1024.Idx), (j 0).val < 4000 * n → G j = outT (F := F) (V main_v11) (V main_v14_0) (V main_v12) (V main_v14_1) j
  | 0, _, G, _, j, hj => absurd hj (by omega)
  | n + 1, hn, G, hG, j, hj => by
    have hN : cfg3.N = 25 := N_3
    have hn' : n < cfg3.N := by omega
    have hi : win3_4.index ⟨n, hn'⟩ = ![n, 0] := ix3_4 ⟨n, hn'⟩
    rw [(rd2 d V O R).ArrAt_succ 4 ⟨n, hn'⟩, if_pos (flush3_4 _)] at hG
    obtain ⟨G0, X, hG0, ⟨Y, -, hX⟩, rfl⟩ := hG
    have hX' : X = blkOut d V ⟨n, hn'⟩ := hX
    by_cases hlt : (j 0).val < 4000 * n
    · have ih := arrAt2 n (by omega) G0 hG0 j hlt
      refine (View.write_of_not_mem _ _ _ fun hm => ?_).trans ih
      obtain ⟨x, -, hx⟩ := Finset.mem_map.mp hm
      have h0 := (Pipeline.Window.rect_emb_val win3_4 ⟨n, hn'⟩ x 0).symm.trans (congrArg (fun y : S100000x1024.Idx => (y 0).val) hx)
      rw [hi] at h0
      have h0' : n * 4000 + (x 0).val = (j 0).val := h0
      omega
    · have hb : (j 0).val - 4000 * n < 4000 := by omega
      have hj1 := (j 1).isLt
      have he : ((cfg3.win 4).blk ⟨n, hn'⟩).view.emb (ix2 (n0 := 4000) (n1 := 1024) ⟨(j 0).val - 4000 * n, hb⟩ (j 1)) = j := by
        funext a
        apply Fin.ext
        fin_cases a
        · refine (Pipeline.Window.rect_emb_val win3_4 ⟨n, hn'⟩ _ 0).trans ?_
          rw [hi]; show n * 4000 + ((j 0).val - 4000 * n) = (j 0).val; omega
        · refine (Pipeline.Window.rect_emb_val win3_4 ⟨n, hn'⟩ _ 1).trans ?_
          rw [hi]; show 0 * 1024 + (j 1).val = (j 1).val; omega
      have hv := View.write_emb_of_mem (v := ((cfg3.win 4).blk ⟨n, hn'⟩).view) (Val := Elt F) G0 ((cfg3.win 4).cut (cfg3.grid.coords ⟨n, hn'⟩) X)
        (Finset.mem_univ (ix2 (n0 := 4000) (n1 := 1024) ⟨(j 0).val - 4000 * n, hb⟩ (j 1)))
      rw [he] at hv
      refine hv.trans ?_
      show X (ix2 (n0 := 4000) (n1 := 1024) ⟨(j 0).val - 4000 * n, hb⟩ (j 1)) = _
      rw [hX']
      have hdiv : (⟨(j 0).val / 4000, by have h : (j 0).val < 100000 := (j 0).isLt; omega⟩ : Fin 25) = pt3 ⟨n, hn'⟩ := Fin.ext (by show (j 0).val / 4000 = n; omega)
      have hmod : (⟨(j 0).val % 4000, Nat.mod_lt _ (by decide)⟩ : Fin 4000) = ⟨(j 0).val - 4000 * n, hb⟩ := Fin.ext (by show (j 0).val % 4000 = (j 0).val - 4000 * n; omega)
      unfold outT blkOut
      dsimp only
      rw [hdiv, hmod]

theorem body2 : (rd2 d V O R).BodyObligation (defs₀ (F := F)) 𝒱₀ (none : HIx 1) Set.univ := fun t Y hY => by
  rw [bigSep_W3, bigSep_W3]
  show iprop(Pipeline.scopedRest spec3 d ∗ (rd2 d V O R).owesAt none t.castSucc
      ∗ owns (d.tc : Thread nD τ) (win3_0.stage (cfg3.slots t 0)) fullShare (Y 0)
      ∗ owns (d.tc : Thread nD τ) (win3_1.stage (cfg3.slots t 1)) fullShare (Y 1)
      ∗ owns (d.tc : Thread nD τ) (win3_2.stage (cfg3.slots t 2)) fullShare (Y 2)
      ∗ owns (d.tc : Thread nD τ) (win3_3.stage (cfg3.slots t 3)) fullShare (Y 3)
      ∗ owns (d.tc : Thread nD τ) (win3_4.stage (cfg3.slots t 4)) fullShare (Y 4))
    ⊢ wp frame (wpE (defs₀ (F := F)) 𝒱₀ (d.tc : Thread nD τ) none) Set.univ (bodyAt3 t) fun _ =>
        iprop(Pipeline.scopedRest spec3 d ∗ (rd2 d V O R).owesAt none t.castSucc
      ∗ (∃ X, ⌜(rd2 d V O R).after 0 t (Y 0) X⌝ ∗ owns (d.tc : Thread nD τ) (win3_0.stage (cfg3.slots t 0)) fullShare X)
      ∗ (∃ X, ⌜(rd2 d V O R).after 1 t (Y 1) X⌝ ∗ owns (d.tc : Thread nD τ) (win3_1.stage (cfg3.slots t 1)) fullShare X)
      ∗ (∃ X, ⌜(rd2 d V O R).after 2 t (Y 2) X⌝ ∗ owns (d.tc : Thread nD τ) (win3_2.stage (cfg3.slots t 2)) fullShare X)
      ∗ (∃ X, ⌜(rd2 d V O R).after 3 t (Y 3) X⌝ ∗ owns (d.tc : Thread nD τ) (win3_3.stage (cfg3.slots t 3)) fullShare X)
      ∗ (∃ X, ⌜(rd2 d V O R).after 4 t (Y 4) X⌝ ∗ owns (d.tc : Thread nD τ) (win3_4.stage (cfg3.slots t 4)) fullShare X))
  iintro ⟨HΦ, HO, H0, H1, H2, H3, H4⟩
  iapply (pass2_run d (grid3.coords t) _ _ _ _ _ _ _ _ _ _ (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  iexists (k3_pay1 (Y 1) (Y 0) (Y 2) (Y 3)); isplitr
  · ipureintro; exact blkOut_pay d V O R t Y hY
  iexact H4

/-- After the region the transposed result. -/
theorem outT2 (G : Buf (Elt F) (tl d main_v15)) (hG : (rd2 d V O R).ArrAt 4 cfg3.N G) :
    G = outT (F := F) (V main_v11) (V main_v14_0) (V main_v12) (V main_v14_1) :=
  funext fun j => arrAt2 d V O R 25 (le_refl _) G (show (rd2 d V O R).ArrAt 4 25 G from N_3 ▸ hG) j (by have h : (j 0).val < 100000 := (j 0).isLt; omega)

end Data

end Cert.Proof

end
-- ==== Proof.Pass1.lean ====
/-
  The second TensorCore call: 25 points. The first computes the whole hidden layer and clears the row of sums; each adds
  one block's exponentials to the row; the last writes the row's logarithms, shifted back. The row lives in a scratch
  buffer, and the invariant carries it as the sum so far.
-/
module

public import proofs.«01_k».proof.Proof.Pass2

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The row of sums -/

/-- The row of sums after `n` blocks. -/
def accs (W : S100000x128.Idx → Elt F .f32) (B : S25x1x4000.Idx → Elt F .f32) (H : S128x1024.Idx → Elt F .bf16) : Nat → S1x1024.Idx → Elt F .f32
  | 0 => k2_pay2
  | n + 1 => k2_pay3 (blkW W ⟨n % 25, Nat.mod_lt _ (by decide)⟩) (blkB B ⟨n % 25, Nat.mod_lt _ (by decide)⟩) H (accs W B H n)

/-! ## The body -/

theorem pass1_first (d : Dev nD) (i : grid2.Coords) (h1 : k2_cond1 i = 1#1) (h2 : ¬k2_cond2 i = 1#1)
    (arg1 : Memref sig .tc .vmem S1024x128 .f32) (harg1 : arg1.IsWhole)
    (arg2 : Memref sig .tc .vmem S1024x1 .f32) (harg2 : arg2.IsWhole)
    (arg3 : Memref sig .tc .vmem S64x128 .f32) (harg3 : arg3.IsWhole)
    (arg4 : Memref sig .tc .vmem S128x1 .f32) (harg4 : arg4.IsWhole)
    (arg5 : Memref sig .tc .vmem S4000x128 .f32) (harg5 : arg5.IsWhole)
    (arg6 : Memref sig .tc .vmem S1x1x4000 .f32) (harg6 : arg6.IsWhole)
    (arg7 : Memref sig .tc .vmem S128x1024 .bf16) (harg7 : arg7.IsWhole)
    (arg8 : Memref sig .tc .vmem S1x1024 .f32) (harg8 : arg8.IsWhole)
    (arg9 : Memref sig .tc .vmem S1x1024 .f32) (harg9 : arg9.IsWhole)
    (Y0 : S1024x128.Idx → Elt F .f32)
    (Y1 : S1024x1.Idx → Elt F .f32)
    (Y2 : S64x128.Idx → Elt F .f32)
    (Y3 : S128x1.Idx → Elt F .f32)
    (Y4 : S4000x128.Idx → Elt F .f32)
    (Y5 : S1x1x4000.Idx → Elt F .f32)
    (Y6 : S128x1024.Idx → Elt F .bf16)
    (Y7 : S1x1024.Idx → Elt F .f32)
    (Y8 : S1x1024.Idx → Elt F .f32)
    (Q : PUnit → sProp 𝕄) :
    iprop((owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare Y6
        ∗ owns (d.tc : Thread nD τ) arg8 fullShare Y7
        ∗ owns (d.tc : Thread nD τ) arg9 fullShare Y8)
        ∗ (iprop(owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare (k2_pay1 Y0 Y1 Y2 Y3)
        ∗ owns (d.tc : Thread nD τ) arg8 fullShare Y7
        ∗ owns (d.tc : Thread nD τ) arg9 fullShare (k2_pay3 Y4 Y5 (k2_pay1 Y0 Y1 Y2 Y3) k2_pay2)) -∗ Q ⟨⟩))
      ⊢ wp frame (wpE (defs₀ (F := F)) 𝒱₀ (d.tc : Thread nD τ) none) Set.univ
          (cc2__pass1_body i arg1 harg1 arg2 harg2 arg3 harg3 arg4 harg4 arg5 harg5 arg6 harg6 arg7 harg7 arg8 harg8 arg9 harg9) Q := by
  simp only [cc2__pass1_body_eq_skeleton]; unfold cc2__pass1_body_skel
  rw [dif_pos h1, dif_neg h2]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro
    subst hf0 hf1 hf2 hf3 hf4 hf5 hf6 hf7 hf8
    unfold pass1_first.sl.H6_1
    rw [View.read_writes_full, View.readAt_full, View.readAt_full, View.readAt_full, View.readAt_full]
  isplitl [H7]
  · iexists f7; isplitr; · ipureintro; exact hf7
    iexact H7
  iexists _; isplitr; swap; · iexact H8
  ipureintro
  subst hf0 hf1 hf2 hf3 hf4 hf5 hf6 hf7 hf8
  rw [View.read_writes_full, View.readAt_full, View.readAt_full]
  unfold pass1_first.sl.v11 pass1_first.sl.v17 pass1_first.sl.H6_1 pass1_first.sl.H8_1
  rw [View.readCov_full, View.readCov_full, View.readAt_full, View.readAt_full, View.readAt_full, View.readAt_full]

theorem pass1_mid (d : Dev nD) (i : grid2.Coords) (h1 : ¬k2_cond1 i = 1#1) (h2 : ¬k2_cond2 i = 1#1)
    (arg1 : Memref sig .tc .vmem S1024x128 .f32) (harg1 : arg1.IsWhole)
    (arg2 : Memref sig .tc .vmem S1024x1 .f32) (harg2 : arg2.IsWhole)
    (arg3 : Memref sig .tc .vmem S64x128 .f32) (harg3 : arg3.IsWhole)
    (arg4 : Memref sig .tc .vmem S128x1 .f32) (harg4 : arg4.IsWhole)
    (arg5 : Memref sig .tc .vmem S4000x128 .f32) (harg5 : arg5.IsWhole)
    (arg6 : Memref sig .tc .vmem S1x1x4000 .f32) (harg6 : arg6.IsWhole)
    (arg7 : Memref sig .tc .vmem S128x1024 .bf16) (harg7 : arg7.IsWhole)
    (arg8 : Memref sig .tc .vmem S1x1024 .f32) (harg8 : arg8.IsWhole)
    (arg9 : Memref sig .tc .vmem S1x1024 .f32) (harg9 : arg9.IsWhole)
    (Y0 : S1024x128.Idx → Elt F .f32)
    (Y1 : S1024x1.Idx → Elt F .f32)
    (Y2 : S64x128.Idx → Elt F .f32)
    (Y3 : S128x1.Idx → Elt F .f32)
    (Y4 : S4000x128.Idx → Elt F .f32)
    (Y5 : S1x1x4000.Idx → Elt F .f32)
    (Y6 : S128x1024.Idx → Elt F .bf16)
    (Y7 : S1x1024.Idx → Elt F .f32)
    (Y8 : S1x1024.Idx → Elt F .f32)
    (Q : PUnit → sProp 𝕄) :
    iprop((owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare Y6
        ∗ owns (d.tc : Thread nD τ) arg8 fullShare Y7
        ∗ owns (d.tc : Thread nD τ) arg9 fullShare Y8)
        ∗ (iprop(owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare Y6
        ∗ owns (d.tc : Thread nD τ) arg8 fullShare Y7
        ∗ owns (d.tc : Thread nD τ) arg9 fullShare (k2_pay3 Y4 Y5 Y6 Y8)) -∗ Q ⟨⟩))
      ⊢ wp frame (wpE (defs₀ (F := F)) 𝒱₀ (d.tc : Thread nD τ) none) Set.univ
          (cc2__pass1_body i arg1 harg1 arg2 harg2 arg3 harg3 arg4 harg4 arg5 harg5 arg6 harg6 arg7 harg7 arg8 harg8 arg9 harg9) Q := by
  simp only [cc2__pass1_body_eq_skeleton]; unfold cc2__pass1_body_skel
  rw [dif_neg h1, dif_neg h2]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact H8
  ipureintro
  subst hf0 hf1 hf2 hf3 hf4 hf5 hf6 hf7 hf8
  rw [View.read_writes_full, View.readAt_full, View.readAt_full, View.readAt_full, View.readAt_full]

theorem pass1_last (d : Dev nD) (i : grid2.Coords) (h1 : ¬k2_cond1 i = 1#1) (h2 : k2_cond2 i = 1#1)
    (arg1 : Memref sig .tc .vmem S1024x128 .f32) (harg1 : arg1.IsWhole)
    (arg2 : Memref sig .tc .vmem S1024x1 .f32) (harg2 : arg2.IsWhole)
    (arg3 : Memref sig .tc .vmem S64x128 .f32) (harg3 : arg3.IsWhole)
    (arg4 : Memref sig .tc .vmem S128x1 .f32) (harg4 : arg4.IsWhole)
    (arg5 : Memref sig .tc .vmem S4000x128 .f32) (harg5 : arg5.IsWhole)
    (arg6 : Memref sig .tc .vmem S1x1x4000 .f32) (harg6 : arg6.IsWhole)
    (arg7 : Memref sig .tc .vmem S128x1024 .bf16) (harg7 : arg7.IsWhole)
    (arg8 : Memref sig .tc .vmem S1x1024 .f32) (harg8 : arg8.IsWhole)
    (arg9 : Memref sig .tc .vmem S1x1024 .f32) (harg9 : arg9.IsWhole)
    (Y0 : S1024x128.Idx → Elt F .f32)
    (Y1 : S1024x1.Idx → Elt F .f32)
    (Y2 : S64x128.Idx → Elt F .f32)
    (Y3 : S128x1.Idx → Elt F .f32)
    (Y4 : S4000x128.Idx → Elt F .f32)
    (Y5 : S1x1x4000.Idx → Elt F .f32)
    (Y6 : S128x1024.Idx → Elt F .bf16)
    (Y7 : S1x1024.Idx → Elt F .f32)
    (Y8 : S1x1024.Idx → Elt F .f32)
    (Q : PUnit → sProp 𝕄) :
    iprop((owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare Y6
        ∗ owns (d.tc : Thread nD τ) arg8 fullShare Y7
        ∗ owns (d.tc : Thread nD τ) arg9 fullShare Y8)
        ∗ (iprop(owns (d.tc : Thread nD τ) arg1 fullShare Y0
        ∗ owns (d.tc : Thread nD τ) arg2 fullShare Y1
        ∗ owns (d.tc : Thread nD τ) arg3 fullShare Y2
        ∗ owns (d.tc : Thread nD τ) arg4 fullShare Y3
        ∗ owns (d.tc : Thread nD τ) arg5 fullShare Y4
        ∗ owns (d.tc : Thread nD τ) arg6 fullShare Y5
        ∗ owns (d.tc : Thread nD τ) arg7 fullShare Y6
        ∗ owns (d.tc : Thread nD τ) arg8 fullShare (k2_pay4 (k2_pay3 Y4 Y5 Y6 Y8))
        ∗ owns (d.tc : Thread nD τ) arg9 fullShare (k2_pay3 Y4 Y5 Y6 Y8)) -∗ Q ⟨⟩))
      ⊢ wp frame (wpE (defs₀ (F := F)) 𝒱₀ (d.tc : Thread nD τ) none) Set.univ
          (cc2__pass1_body i arg1 harg1 arg2 harg2 arg3 harg3 arg4 harg4 arg5 harg5 arg6 harg6 arg7 harg7 arg8 harg8 arg9 harg9) Q := by
  simp only [cc2__pass1_body_eq_skeleton]; unfold cc2__pass1_body_skel
  rw [dif_neg h1, dif_pos h2]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    subst hf0 hf1 hf2 hf3 hf4 hf5 hf6 hf7 hf8
    rw [View.read_writes_full]
    unfold pass1_last.sl.v27 pass1_last.sl.H8_1
    rw [View.readCov_full, View.readAt_full, View.readAt_full, View.readAt_full, View.readAt_full]
  iexists _; isplitr; swap; · iexact H8
  ipureintro
  subst hf0 hf1 hf2 hf3 hf4 hf5 hf6 hf7 hf8
  unfold pass1_last.sl.H8_1
  rw [View.read_writes_full, View.readAt_full, View.readAt_full, View.readAt_full, View.readAt_full]

/-! ## The data -/

section Data

variable (d : Dev nD) (V : (b : Ref sig .tc) → Buf (Elt F) ((d.tc : Thread nD τ).loc b)) (O : CellTallies nD τ sig (HIx 1)) (R : Set (SemLoc sig × HIx 1))

/-- A point of the grid as a block number. -/
def pt2 (t : Fin cfg2.N) : Fin 25 := ⟨t.val, by have h : cfg2.N = 25 := N_2; have := t.isLt; omega⟩

/-- The hidden layer the first point computes. -/
def hid : S128x1024.Idx → Elt F .bf16 := k2_pay1 (V main_v8) (V main_v10) (V main_arg2) (V main_v13)

/-- The row of sums after `n` blocks, from the arrays. -/
def acc (n : Nat) : S1x1024.Idx → Elt F .f32 := accs (F := F) (V main_v11) (V main_v12) (hid d V) n

/-- A scoped buffer at whatever it holds. -/
def someBuf (b : Ref sig .tc) : sProp 𝕄 := iprop(∃ f : Buf (Elt F) ((d.tc : Thread nD τ).loc b), ((d.tc : Thread nD τ).loc b) ↦{fullShare} f)

/-- The scoped buffers the call has no use for. -/
def rest1 : sProp 𝕄 := iprop(someBuf (F := F) d cc0_stg0_0 ∗ someBuf (F := F) d cc0_stg0_1 ∗ someBuf (F := F) d cc0_stg1_0 ∗ someBuf (F := F) d cc0_stg1_1 ∗ someBuf (F := F) d cc0_stg2_0
  ∗ someBuf (F := F) d cc0_stg2_1 ∗ someBuf (F := F) d cc3_stg0_0 ∗ someBuf (F := F) d cc3_stg1_0 ∗ someBuf (F := F) d cc3_stg1_1 ∗ someBuf (F := F) d cc3_stg2_0 ∗ someBuf (F := F) d cc3_stg2_1
  ∗ someBuf (F := F) d cc3_stg3_0 ∗ someBuf (F := F) d cc3_stg4_0 ∗ someBuf (F := F) d cc3_stg4_1)

/-- Before point `n` the scratch buffer holds the sum of the first `n` blocks (before the first, anything). -/
def inv1 (n : Nat) : sProp 𝕄 :=
  iprop((∃ X, ⌜n = 0 ∨ X = acc d V n⌝ ∗ owns (d.tc : Thread nD τ) (Memref.whole cc2_scratch0) fullShare X) ∗ rest1 (F := F) d)

theorem inv1_intro : (Pipeline.scopedRest spec2 d : sProp 𝕄) ⊢ inv1 d V 0 := by
  rw [scopedRest2_eq]
  unfold inv1 rest1 someBuf
  iintro ⟨A0, A1, A2, A3, A4, A5, ⟨%f, S⟩, B0, B1, B2, B3, B4, B5, B6, B7⟩
  isplitl [S]
  · iexists f
    isplitr
    · ipureintro; exact Or.inl rfl
    rw [owns_whole]
    iexact S
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

theorem inv1_elim (n : Nat) : inv1 d V n ⊢ (Pipeline.scopedRest spec2 d : sProp 𝕄) := by
  rw [scopedRest2_eq]
  unfold inv1 rest1 someBuf
  simp only [owns_whole]
  iintro ⟨⟨%f, -, S⟩, A0, A1, A2, A3, A4, A5, B0, B1, B2, B3, B4, B5, B6, B7⟩
  isplitl [A0]; · iexact A0
  isplitl [A1]; · iexact A1
  isplitl [A2]; · iexact A2
  isplitl [A3]; · iexact A3
  isplitl [A4]; · iexact A4
  isplitl [A5]; · iexact A5
  isplitl [S]
  · iexists f; iexact S
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

def rd1 : RDat τ (Elt F) (HIx 1) ℕ (UU F) ℕ cfg2 d where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = hid d V
    | ⟨7, _⟩ => fun _ X => t.val = 24 → X = k2_pay4 (acc d V 25)
  Φ t := inv1 d V t.val
  q _ := fullShare
  owed _ := O
  recorded _ := R

theorem coords2 (t : Fin cfg2.N) : (grid2.coords t 0).val = t.val := by
  rw [Pipeline.Grid.coords_val t 0 (S := 1) (B := 25) (by decide) rfl]
  have := t.isLt; have h : cfg2.N = 25 := N_2; omega

theorem cond1_aux : ∀ x : Fin 25, (Scalar.cmpi .ne (Scalar.extui (Scalar.cmpi .eq (BitVec.ofNat 32 x.val) 0#32) : BitVec 32) 0#32 = 1#1) ↔ x.val = 0 := by decide
theorem cond2_aux : ∀ x : Fin 25, (Scalar.cmpi .ne (Scalar.extui (Scalar.cmpi .eq (BitVec.ofNat 32 x.val) 24#32) : BitVec 32) 0#32 = 1#1) ↔ x.val = 24 := by decide

theorem cond1_iff (t : Fin cfg2.N) : k2_cond1 (grid2.coords t) = 1#1 ↔ t.val = 0 := by
  unfold k2_cond1
  dsimp only
  rw [coords2]
  exact cond1_aux (pt2 t)

theorem cond2_iff (t : Fin cfg2.N) : k2_cond2 (grid2.coords t) = 1#1 ↔ t.val = 24 := by
  unfold k2_cond2
  dsimp only
  rw [coords2]
  exact cond2_aux (pt2 t)

theorem ix2_0 (t : Fin cfg2.N) : cc2_transform_0 (grid2.coords t) = ![0, 0] := rfl
theorem ix2_1 (t : Fin cfg2.N) : cc2_transform_1 (grid2.coords t) = ![0, 0] := rfl
theorem ix2_2 (t : Fin cfg2.N) : cc2_transform_2 (grid2.coords t) = ![0, 0] := rfl
theorem ix2_3 (t : Fin cfg2.N) : cc2_transform_3 (grid2.coords t) = ![0, 0] := rfl
theorem ix2_6 (t : Fin cfg2.N) : cc2_transform_6 (grid2.coords t) = ![0, 0] := rfl
theorem ix2_7 (t : Fin cfg2.N) : cc2_transform_7 (grid2.coords t) = ![0, 0] := rfl

theorem ix2_4 (t : Fin cfg2.N) : cc2_transform_4 (grid2.coords t) = ![t.val, 0] := by
  have h := coords2 t
  have := t.isLt; have hN : cfg2.N = 25 := N_2
  unfold cc2_transform_4
  funext a
  fin_cases a
  · show (BitVec.ofNat 32 (grid2.coords t 0).val).toNat = t.val
    rw [h, BitVec.toNat_ofNat]; omega
  · rfl

theorem ix2_5 (t : Fin cfg2.N) : cc2_transform_5 (grid2.coords t) = ![t.val, 0, 0] := by
  have h := coords2 t
  have := t.isLt; have hN : cfg2.N = 25 := N_2
  unfold cc2_transform_5
  funext a
  fin_cases a
  · show (BitVec.ofNat 32 (grid2.coords t 0).val).toNat = t.val
    rw [h, BitVec.toNat_ofNat]; omega
  · rfl
  · rfl

theorem fetched2_0 (t : Fin cfg2.N) (dd) : (rd1 d V O R).fetched 0 t dd = V main_v8 := by
  have hi : win2_0.index t = ![0, 0] := ix2_0 t
  funext j
  unfold RDat.fetched Pipeline.Window.fill
  rw [dif_pos]
  · show V main_v8 _ = V main_v8 _
    congr 1
    funext a
    apply Fin.ext
    fin_cases a
    · refine (Pipeline.Window.rect_emb_val win2_0 t _ 0).trans ?_
      rw [hi]
      show 0 * 1024 + (j 0).val = (j 0).val; omega
    · refine (Pipeline.Window.rect_emb_val win2_0 t _ 1).trans ?_
      rw [hi]
      show 0 * 128 + (j 1).val = (j 1).val; omega
  · rw [Pipeline.Window.moved_iff]
    exact fun a => (j a).isLt

theorem fetched2_1 (t : Fin cfg2.N) (dd) : (rd1 d V O R).fetched 1 t dd = V main_v10 := by
  have hi : win2_1.index t = ![0, 0] := ix2_1 t
  funext j
  unfold RDat.fetched Pipeline.Window.fill
  rw [dif_pos]
  · show V main_v10 _ = V main_v10 _
    congr 1
    funext a
    apply Fin.ext
    fin_cases a
    · refine (Pipeline.Window.rect_emb_val win2_1 t _ 0).trans ?_
      rw [hi]
      show 0 * 1024 + (j 0).val = (j 0).val; omega
    · refine (Pipeline.Window.rect_emb_val win2_1 t _ 1).trans ?_
      rw [hi]
      show 0 * 1 + (j 1).val = (j 1).val; omega
  · rw [Pipeline.Window.moved_iff]
    exact fun a => (j a).isLt

theorem fetched2_2 (t : Fin cfg2.N) (dd) : (rd1 d V O R).fetched 2 t dd = V main_arg2 := by
  have hi : win2_2.index t = ![0, 0] := ix2_2 t
  funext j
  unfold RDat.fetched Pipeline.Window.fill
  rw [dif_pos]
  · show V main_arg2 _ = V main_arg2 _
    congr 1
    funext a
    apply Fin.ext
    fin_cases a
    · refine (Pipeline.Window.rect_emb_val win2_2 t _ 0).trans ?_
      rw [hi]
      show 0 * 64 + (j 0).val = (j 0).val; omega
    · refine (Pipeline.Window.rect_emb_val win2_2 t _ 1).trans ?_
      rw [hi]
      show 0 * 128 + (j 1).val = (j 1).val; omega
  · rw [Pipeline.Window.moved_iff]
    exact fun a => (j a).isLt

theorem fetched2_3 (t : Fin cfg2.N) (dd) : (rd1 d V O R).fetched 3 t dd = V main_v13 := by
  have hi : win2_3.index t = ![0, 0] := ix2_3 t
  funext j
  unfold RDat.fetched Pipeline.Window.fill
  rw [dif_pos]
  · show V main_v13 _ = V main_v13 _
    congr 1
    funext a
    apply Fin.ext
    fin_cases a
    · refine (Pipeline.Window.rect_emb_val win2_3 t _ 0).trans ?_
      rw [hi]
      show 0 * 128 + (j 0).val = (j 0).val; omega
    · refine (Pipeline.Window.rect_emb_val win2_3 t _ 1).trans ?_
      rw [hi]
      show 0 * 1 + (j 1).val = (j 1).val; omega
  · rw [Pipeline.Window.moved_iff]
    exact fun a => (j a).isLt

theorem fetched2_4 (t : Fin cfg2.N) (dd) : (rd1 d V O R).fetched 4 t dd = blkW (F := F) (V main_v11) (pt2 t) := by
  have hi : win2_4.index t = ![t.val, 0] := ix2_4 t
  funext j
  unfold RDat.fetched Pipeline.Window.fill
  rw [dif_pos]
  · show V main_v11 _ = V main_v11 _
    congr 1
    funext a
    apply Fin.ext
    fin_cases a
    · refine (Pipeline.Window.rect_emb_val win2_4 t _ 0).trans ?_
      rw [hi]
      show t.val * 4000 + (j 0).val = 4000 * t.val + (j 0).val; omega
    · refine (Pipeline.Window.rect_emb_val win2_4 t _ 1).trans ?_
      rw [hi]
      show 0 * 128 + (j 1).val = (j 1).val; omega
  · rw [Pipeline.Window.moved_iff]
    exact fun a => (j a).isLt

theorem fetched2_5 (t : Fin cfg2.N) (dd) : (rd1 d V O R).fetched 5 t dd = blkB (F := F) (V main_v12) (pt2 t) := by
  have hi : win2_5.index t = ![t.val, 0, 0] := ix2_5 t
  funext j
  unfold RDat.fetched Pipeline.Window.fill
  rw [dif_pos]
  · show V main_v12 _ = V main_v12 _
    congr 1
    funext a
    apply Fin.ext
    fin_cases a
    · refine (Pipeline.Window.rect_emb_val win2_5 t _ 0).trans ?_
      rw [hi]
      have h0 : (j 0).val < 1 := (j 0).isLt
      show t.val * 1 + (j 0).val = t.val; omega
    · refine (Pipeline.Window.rect_emb_val win2_5 t _ 1).trans ?_
      rw [hi]
      show 0 * 1 + (j 1).val = (j 1).val; omega
    · refine (Pipeline.Window.rect_emb_val win2_5 t _ 2).trans ?_
      rw [hi]
      show 0 * 4000 + (j 2).val = (j 2).val; omega
  · rw [Pipeline.Window.moved_iff]
    exact fun a => (j a).isLt

/-- What the body finds in the input buffers. -/
theorem finds2 (t : Fin cfg2.N) (Y : ∀ w : Fin cfg2.W, (cfg2.win w).block.Idx → Elt F (cfg2.win w).elt)
    (hY : ∀ w, (rd1 d V O R).Finds w t (Y w)) :
    Y 0 = V main_v8 ∧ Y 1 = V main_v10 ∧ Y 2 = V main_arg2 ∧ Y 3 = V main_v13 ∧ Y 4 = blkW (F := F) (V main_v11) (pt2 t) ∧ Y 5 = blkB (F := F) (V main_v12) (pt2 t) := by
  obtain ⟨d0, h0⟩ := (rd1 d V O R).finds_in_eq_fetched 0 rfl (fun _ _ _ => rfl) (fun _ _ _ h => h) t _ (hY 0)
  obtain ⟨d1, h1⟩ := (rd1 d V O R).finds_in_eq_fetched 1 rfl (fun _ _ _ => rfl) (fun _ _ _ h => h) t _ (hY 1)
  obtain ⟨d2, h2⟩ := (rd1 d V O R).finds_in_eq_fetched 2 rfl (fun _ _ _ => rfl) (fun _ _ _ h => h) t _ (hY 2)
  obtain ⟨d3, h3⟩ := (rd1 d V O R).finds_in_eq_fetched 3 rfl (fun _ _ _ => rfl) (fun _ _ _ h => h) t _ (hY 3)
  obtain ⟨d4, h4⟩ := (rd1 d V O R).finds_in_eq_fetched 4 rfl (fun _ _ _ => rfl) (fun _ _ _ h => h) t _ (hY 4)
  obtain ⟨d5, h5⟩ := (rd1 d V O R).finds_in_eq_fetched 5 rfl (fun _ _ _ => rfl) (fun _ _ _ h => h) t _ (hY 5)
  exact ⟨h0.trans (fetched2_0 d V O R t d0), h1.trans (fetched2_1 d V O R t d1), h2.trans (fetched2_2 d V O R t d2), h3.trans (fetched2_3 d V O R t d3), h4.trans (fetched2_4 d V O R t d4), h5.trans (fetched2_5 d V O R t d5)⟩

/-- After the first point the hidden layer's buffer holds the hidden layer. -/
theorem finds2_6 (t : Fin cfg2.N) (h0 : t.val ≠ 0) (Y) (hY : (rd1 d V O R).Finds 6 t Y) : Y = hid d V := by
  have hN : cfg2.N = 25 := N_2
  have ht : t.val < 25 := hN ▸ t.isLt
  rcases ((rd1 d V O R).finds_of_pos rfl h0 Y).mp hY with hfl | ⟨Y', -, hR⟩
  · have h := (flush2_6 _).mp hfl
    have h' : (t.val - 1) % 25 = 24 := h
    omega
  · exact hR

theorem acc_succ (t : Fin cfg2.N) : acc d V (t.val + 1) = k2_pay3 (blkW (F := F) (V main_v11) (pt2 t)) (blkB (F := F) (V main_v12) (pt2 t)) (hid d V) (acc d V t.val) := by
  have hN : cfg2.N = 25 := N_2
  have ht : t.val < 25 := hN ▸ t.isLt
  have e : (⟨t.val % 25, Nat.mod_lt _ (by decide)⟩ : Fin 25) = pt2 t := Fin.ext (Nat.mod_eq_of_lt ht)
  unfold acc
  rw [accs, e]

theorem hid1 (G : Buf (Elt F) (tl d main_v14_0)) (hG : (rd1 d V O R).ArrAt 6 cfg2.N G) : G = hid d V := by
  have hN : cfg2.N = 25 := N_2
  have hn' : 24 < cfg2.N := by omega
  have hi : win2_6.index ⟨24, hn'⟩ = ![0, 0] := ix2_6 ⟨24, hn'⟩
  have hG' : (rd1 d V O R).ArrAt 6 (24 + 1) G := (show cfg2.N = 24 + 1 from N_2) ▸ hG
  rw [(rd1 d V O R).ArrAt_succ 6 ⟨24, hn'⟩, if_pos ((flush2_6 _).mpr rfl)] at hG'
  obtain ⟨G0, X, -, ⟨Y, -, hX⟩, rfl⟩ := hG'
  have hX' : X = hid d V := hX
  funext j
  have he : ((cfg2.win 6).blk ⟨24, hn'⟩).view.emb (ix2 (n0 := 128) (n1 := 1024) (j 0) (j 1)) = j := by
    funext a
    apply Fin.ext
    fin_cases a
    · refine (Pipeline.Window.rect_emb_val win2_6 ⟨24, hn'⟩ _ 0).trans ?_
      rw [hi]; show 0 * 128 + (j 0).val = (j 0).val; omega
    · refine (Pipeline.Window.rect_emb_val win2_6 ⟨24, hn'⟩ _ 1).trans ?_
      rw [hi]; show 0 * 1024 + (j 1).val = (j 1).val; omega
  have hv := View.write_emb_of_mem (v := ((cfg2.win 6).blk ⟨24, hn'⟩).view) (Val := Elt F) G0 ((cfg2.win 6).cut (cfg2.grid.coords ⟨24, hn'⟩) X)
    (Finset.mem_univ (ix2 (n0 := 128) (n1 := 1024) (j 0) (j 1)))
  rw [he] at hv
  refine hv.trans ?_
  show X (ix2 (n0 := 128) (n1 := 1024) (j 0) (j 1)) = _
  rw [hX']
  exact congrArg _ (eq_ix2 (n0 := 128) (n1 := 1024) j).symm

theorem lse1 (G : Buf (Elt F) (tl d main_v14_1)) (hG : (rd1 d V O R).ArrAt 7 cfg2.N G) : G = k2_pay4 (acc d V 25) := by
  have hN : cfg2.N = 25 := N_2
  have hn' : 24 < cfg2.N := by omega
  have hi : win2_7.index ⟨24, hn'⟩ = ![0, 0] := ix2_7 ⟨24, hn'⟩
  have hG' : (rd1 d V O R).ArrAt 7 (24 + 1) G := (show cfg2.N = 24 + 1 from N_2) ▸ hG
  rw [(rd1 d V O R).ArrAt_succ 7 ⟨24, hn'⟩, if_pos ((flush2_7 _).mpr rfl)] at hG'
  obtain ⟨G0, X, -, ⟨Y, -, hX⟩, rfl⟩ := hG'
  have hX' : X = k2_pay4 (acc d V 25) := hX rfl
  funext j
  have he : ((cfg2.win 7).blk ⟨24, hn'⟩).view.emb (ix2 (n0 := 1) (n1 := 1024) (j 0) (j 1)) = j := by
    funext a
    apply Fin.ext
    fin_cases a
    · refine (Pipeline.Window.rect_emb_val win2_7 ⟨24, hn'⟩ _ 0).trans ?_
      rw [hi]; show 0 * 1 + (j 0).val = (j 0).val; omega
    · refine (Pipeline.Window.rect_emb_val win2_7 ⟨24, hn'⟩ _ 1).trans ?_
      rw [hi]; show 0 * 1024 + (j 1).val = (j 1).val; omega
  have hv := View.write_emb_of_mem (v := ((cfg2.win 7).blk ⟨24, hn'⟩).view) (Val := Elt F) G0 ((cfg2.win 7).cut (cfg2.grid.coords ⟨24, hn'⟩) X)
    (Finset.mem_univ (ix2 (n0 := 1) (n1 := 1024) (j 0) (j 1)))
  rw [he] at hv
  refine hv.trans ?_
  show X (ix2 (n0 := 1) (n1 := 1024) (j 0) (j 1)) = _
  rw [hX']
  exact congrArg _ (eq_ix2 (n0 := 1) (n1 := 1024) j).symm

theorem body1 : (rd1 d V O R).BodyObligation (defs₀ (F := F)) 𝒱₀ (none : HIx 1) Set.univ := fun t Y hY => by
  rw [bigSep_W2, bigSep_W2]
  show iprop(inv1 d V t.val ∗ (rd1 d V O R).owesAt none t.castSucc
      ∗ owns (d.tc : Thread nD τ) (win2_0.stage (cfg2.slots t 0)) fullShare (Y 0)
      ∗ owns (d.tc : Thread nD τ) (win2_1.stage (cfg2.slots t 1)) fullShare (Y 1)
      ∗ owns (d.tc : Thread nD τ) (win2_2.stage (cfg2.slots t 2)) fullShare (Y 2)
      ∗ owns (d.tc : Thread nD τ) (win2_3.stage (cfg2.slots t 3)) fullShare (Y 3)
      ∗ owns (d.tc : Thread nD τ) (win2_4.stage (cfg2.slots t 4)) fullShare (Y 4)
      ∗ owns (d.tc : Thread nD τ) (win2_5.stage (cfg2.slots t 5)) fullShare (Y 5)
      ∗ owns (d.tc : Thread nD τ) (win2_6.stage (cfg2.slots t 6)) fullShare (Y 6)
      ∗ owns (d.tc : Thread nD τ) (win2_7.stage (cfg2.slots t 7)) fullShare (Y 7))
    ⊢ wp frame (wpE (defs₀ (F := F)) 𝒱₀ (d.tc : Thread nD τ) none) Set.univ (bodyAt2 t) fun _ =>
        iprop(inv1 d V (t.val + 1) ∗ (rd1 d V O R).owesAt none t.castSucc
      ∗ (∃ X, ⌜(rd1 d V O R).after 0 t (Y 0) X⌝ ∗ owns (d.tc : Thread nD τ) (win2_0.stage (cfg2.slots t 0)) fullShare X)
      ∗ (∃ X, ⌜(rd1 d V O R).after 1 t (Y 1) X⌝ ∗ owns (d.tc : Thread nD τ) (win2_1.stage (cfg2.slots t 1)) fullShare X)
      ∗ (∃ X, ⌜(rd1 d V O R).after 2 t (Y 2) X⌝ ∗ owns (d.tc : Thread nD τ) (win2_2.stage (cfg2.slots t 2)) fullShare X)
      ∗ (∃ X, ⌜(rd1 d V O R).after 3 t (Y 3) X⌝ ∗ owns (d.tc : Thread nD τ) (win2_3.stage (cfg2.slots t 3)) fullShare X)
      ∗ (∃ X, ⌜(rd1 d V O R).after 4 t (Y 4) X⌝ ∗ owns (d.tc : Thread nD τ) (win2_4.stage (cfg2.slots t 4)) fullShare X)
      ∗ (∃ X, ⌜(rd1 d V O R).after 5 t (Y 5) X⌝ ∗ owns (d.tc : Thread nD τ) (win2_5.stage (cfg2.slots t 5)) fullShare X)
      ∗ (∃ X, ⌜(rd1 d V O R).after 6 t (Y 6) X⌝ ∗ owns (d.tc : Thread nD τ) (win2_6.stage (cfg2.slots t 6)) fullShare X)
      ∗ (∃ X, ⌜(rd1 d V O R).after 7 t (Y 7) X⌝ ∗ owns (d.tc : Thread nD τ) (win2_7.stage (cfg2.slots t 7)) fullShare X))
  have hN : cfg2.N = 25 := N_2
  have ht : t.val < 25 := hN ▸ t.isLt
  obtain ⟨e0, e1, e2, e3, e4, e5⟩ := finds2 d V O R t Y hY
  have hsucc := acc_succ d V t
  rw [← e4, ← e5] at hsucc
  unfold inv1
  by_cases h1 : t.val = 0
  · have hh : hid d V = k2_pay1 (Y 0) (Y 1) (Y 2) (Y 3) := by rw [e0, e1, e2, e3]; rfl
    have ha : acc d V t.val = k2_pay2 := by rw [h1]; rfl
    iintro ⟨⟨⟨%X, %hX, S⟩, HR⟩, HO, H0, H1, H2, H3, H4, H5, H6, H7⟩
    iapply (pass1_first d (grid2.coords t) ((cond1_iff t).mpr h1) (fun h => absurd ((cond2_iff t).mp h) (by omega)) _ _ _ _ _ _ _ _ _ _ _ _ _ _ _ _ _ _ (Y 0) (Y 1) (Y 2) (Y 3) (Y 4) (Y 5) (Y 6) (Y 7) X _)
    isplitl [H0 H1 H2 H3 H4 H5 H6 H7 S]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact S
    iintro ⟨H0, H1, H2, H3, H4, H5, H6, H7, S⟩
    isplitl [S HR]
    · isplitl [S]
      · iexists _
        isplitr; swap; · iexact S
        ipureintro
        right
        rw [hsucc, ha, hh]
      iexact HR
    isplitl [HO]; · iexact HO
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists _; isplitr; swap; · iexact H6
      ipureintro
      exact hh.symm
    iexists _; isplitr; swap; · iexact H7
    ipureintro
    exact fun h => absurd h (by omega)
  have e6 : Y 6 = hid d V := finds2_6 d V O R t h1 _ (hY 6)
  by_cases h2 : t.val = 24
  · iintro ⟨⟨⟨%X, %hX, S⟩, HR⟩, HO, H0, H1, H2, H3, H4, H5, H6, H7⟩
    have hX' : X = acc d V t.val := hX.resolve_left h1
    iapply (pass1_last d (grid2.coords t) (fun h => h1 ((cond1_iff t).mp h)) ((cond2_iff t).mpr h2) _ _ _ _ _ _ _ _ _ _ _ _ _ _ _ _ _ _ (Y 0) (Y 1) (Y 2) (Y 3) (Y 4) (Y 5) (Y 6) (Y 7) X _)
    isplitl [H0 H1 H2 H3 H4 H5 H6 H7 S]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact S
    iintro ⟨H0, H1, H2, H3, H4, H5, H6, H7, S⟩
    isplitl [S HR]
    · isplitl [S]
      · iexists _
        isplitr; swap; · iexact S
        ipureintro
        right
        rw [hsucc, hX', e6]
      iexact HR
    isplitl [HO]; · iexact HO
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists _; isplitr; swap; · iexact H6
      ipureintro
      exact e6
    iexists _; isplitr; swap; · iexact H7
    ipureintro
    intro _
    have h25 : acc d V 25 = acc d V (t.val + 1) := by rw [h2]
    rw [h25, hsucc, hX', e6]
  · iintro ⟨⟨⟨%X, %hX, S⟩, HR⟩, HO, H0, H1, H2, H3, H4, H5, H6, H7⟩
    have hX' : X = acc d V t.val := hX.resolve_left h1
    iapply (pass1_mid d (grid2.coords t) (fun h => h1 ((cond1_iff t).mp h)) (fun h => h2 ((cond2_iff t).mp h)) _ _ _ _ _ _ _ _ _ _ _ _ _ _ _ _ _ _ (Y 0) (Y 1) (Y 2) (Y 3) (Y 4) (Y 5) (Y 6) (Y 7) X _)
    isplitl [H0 H1 H2 H3 H4 H5 H6 H7 S]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact S
    iintro ⟨H0, H1, H2, H3, H4, H5, H6, H7, S⟩
    isplitl [S HR]
    · isplitl [S]
      · iexists _
        isplitr; swap; · iexact S
        ipureintro
        right
        rw [hsucc, hX', e6]
      iexact HR
    isplitl [HO]; · iexact HO
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists _; isplitr; swap; · iexact H6
      ipureintro
      exact e6
    iexists _; isplitr; swap; · iexact H7
    ipureintro
    exact fun h => absurd h h2

end Data

end Cert.Proof

end
-- ==== Proof.Regions.lean ====
/-
  The three TensorCore kernels of the program as steps of the TensorCore's thread: each is entered from its windows'
  arrays and left with the results in place, whatever the thread still owes the SparseCores.
-/
module

public import proofs.«01_k».proof.Proof.Pass1
public import proofs.«01_k».proof.Proof.Gather
public import Idealize.ShloMosaic.Lib.Pipeline.RegionArrays

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The family of proof data -/

/-- No pipeline reads a prefetched table. -/
abbrev adm (p : Fin 3) : (pcfgs (F := F) p).Adm := (cfgs p).toPCfg_adm

/-- The contents of @main's arrays, by reference. -/
abbrev Conts (F : FTy → Type) : Type := (b : Ref sig .tc) → b.ty.Contents (Elt F)

/-- The proof data of the three pipelines, at arrays `V`, a tally `O` owed throughout and pairs `R` recorded before. -/
def rdats (V : Conts F) (O : CellTallies nD τ sig (HIx 1)) (R : Set (SemLoc sig × HIx 1)) :
    (p : Fin 3) → (c : Dev nD) → RDat τ (Elt F) (HIx 1) ℕ (UU F) ℕ (Pipeline.pin (pcfgs (F := F)) adm p) c
  | 0 => fun c => rd0 c V O R
  | 1 => fun c => rd1 c V O R
  | 2 => fun c => rd2 c V O R

/-- Nothing the TensorCore owes the SparseCores is owed at the pipelines' index. -/
theorem otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg]
    rintro ⟨_, h⟩; cases h
  · rfl

section Seg

variable (V : Conts F) (O : CellTallies nD τ sig (HIx 1)) (R : Set (SemLoc sig × HIx 1)) (hO : ∀ g, O g none = 0)

/-- A pipeline's region entered from its arrays and what the core owes, and left with its arrays at their last
    contents; its invariant starts from and ends at the scoped buffers it does not stage. -/
def mkSeg (p : Fin 3) (win : Pipeline.WinFacts₀ (pcfgs (F := F) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hK : (pcfgs (F := F) p).pre.K = 0)
    (hbody : ∀ c, (rdats V O R p c).BodyObligation defs₀ 𝒱₀ (none : HIx 1) Set.univ)
    (howed : ∀ c t, (rdats V O R p c).owed t = O)
    (hin : ∀ c, Pipeline.scopedRest (Pipeline.pin (pcfgs (F := F)) adm p).spec c ⊢ (rdats V O R p c).Φ 0)
    (hout : ∀ c, (rdats V O R p c).Φ (Fin.last (Pipeline.pin (pcfgs (F := F)) adm p).N) ⊢ Pipeline.scopedRest (Pipeline.pin (pcfgs (F := F)) adm p).spec c) :
    Pipeline.RDat.RegionSeg (pcfgs (F := F)) adm (rdats V O R) (none : HIx 1) defs₀ 𝒱₀ (K (F := F)).L (K (F := F)).lev p where
  win := win
  block_pos := block_pos
  stage_whole := stage_whole
  K := PEmpty
  osem k := k.elim
  ho := Pipeline.OwnSemFacts.none _
  hbody := hbody
  hwaits c := Pipeline.RDat.cellsWaits_intro _ _ _ p c (fun w s t => by rw [howed c t]; exact (K (F := F)).mayWait_none _ hO)
  pre c := iprop((rdats V O R p c).arrays (rdats V O R p c).A ∗ (rdats V O R p c).owesAt none 0)
  post c := iprop((rdats V O R p c).arraysAt (Pipeline.pin (pcfgs (F := F)) adm p).N ∗ (rdats V O R p c).owesAt none (Fin.last (Pipeline.pin (pcfgs (F := F)) adm p).N))
  X _ := iprop(emp)
  Y _ := iprop(emp)
  Z _ := iprop(emp)
  hentry c := by
    rw [Pipeline.ownSems0_none, Pipeline.prefHeld_of_none _ hK]
    iintro ⟨⟨Ha, HO⟩, -, -⟩
    imodintro
    isplitl [Ha]; · iexact Ha
    isplitr; · iempintro
    isplitl [HO]; · iexact HO
    isplitr; · iempintro
    iempintro
  hin c := (show _ ⊢ (Pipeline.scopedRest (Pipeline.pin (pcfgs (F := F)) adm p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    iintro ⟨Ha, HO, -, -⟩
    imodintro
    isplitl [Ha]; · iexact Ha
    iexact HO

theorem in0 (c : Dev nD) (t) : Pipeline.scopedRest spec0 c ⊢ (rd0 c V O R).Φ t := BI.Entails.refl _
theorem out0 (c : Dev nD) (t) : (rd0 c V O R).Φ t ⊢ Pipeline.scopedRest spec0 c := BI.Entails.refl _
theorem in2 (c : Dev nD) (t) : Pipeline.scopedRest spec3 c ⊢ (rd2 c V O R).Φ t := BI.Entails.refl _
theorem out2 (c : Dev nD) (t) : (rd2 c V O R).Φ t ⊢ Pipeline.scopedRest spec3 c := BI.Entails.refl _

def seg0 := mkSeg V O R hO 0 winFacts₀0 block_pos0 stage_whole0 rfl (fun c => body0 c V O R) (fun _ _ => rfl)
  (fun c => in0 V O R c 0) (fun c => out0 V O R c _)
def seg1 := mkSeg V O R hO 1 winFacts2.to₀ block_pos2 stage_whole2 rfl (fun c => body1 c V O R) (fun _ _ => rfl)
  (fun c => inv1_intro c V) (fun c => inv1_elim c V _)
def seg2 := mkSeg V O R hO 2 winFacts3.to₀ block_pos3 stage_whole3 rfl (fun c => body2 c V O R) (fun _ _ => rfl)
  (fun c => in2 V O R c 0) (fun c => out2 V O R c _)

/-- A region under the SparseCore launch: from the arrays and what the core owes, to the arrays at the end. -/
theorem seg_wp (p : Fin 3)
    (S : Pipeline.RDat.RegionSeg (pcfgs (F := F)) adm (rdats V O R) (none : HIx 1) defs₀ 𝒱₀ (K (F := F)).L (K (F := F)).lev p)
    (c : Dev nD) (Q : PUnit → sProp 𝕄) :
    iprop((iprop(boundary (T c) ∗ S.post c) -∗ Q ⟨⟩)
        ∗ boundary (T c) ∗ S.pre c ∗ levAts (K (F := F)).L (K (F := F)).lev
        ∗ Pipeline.cellsGhost (Pipeline.pin (pcfgs (F := F)) adm) (EP (F := F)) p c ∗ Pipeline.toksInit (Pipeline.pin (pcfgs (F := F)) adm) (EP (F := F)) p c)
      ⊢ wp frame (wpE ((K (F := F)).defs D) 𝒱 (T c) none) Set.univ
          (Prog.lift (.customCall (SparseCore.inner (Pipeline.entry p)) ())) Q := by
  refine BI.Entails.trans ?_ ((K (F := F)).wp_liftProg D 𝒱 (T c) Set.univ none (Prog.lift (.customCall (Pipeline.entry p) ())) Q)
  refine BI.Entails.trans ?_ (Pipeline.RDat.RegionSeg.wp (pcfgs (F := F)) adm (rdats V O R) (none : HIx 1) cellOf_inj (EP (F := F)) defs₀ 𝒱₀
    (K (F := F)).L (K (F := F)).lev S c none (fun u hu => by cases hu) _ Q)
  show _ ⊢ iprop((iprop(boundary (T c) ∗ S.post c) -∗ wp frame (wpE D 𝒱 (T c) none) Set.univ (Prog.ret PUnit.unit) Q) ∗ _)
  rw [wp_ret]
  iintro ⟨HQ, Hrest⟩
  isplitl [HQ]
  · iintro H
    imodintro
    iapply HQ $$ H
  iexact Hrest

end Seg

/-! ## The arrays and the debts at a region's two ends -/

/-- The TensorCore owes the SparseCores' calls from `n` on, its recorded pairs at levels at most `b`. -/
def tcOw (d : Dev nD) (n b : ℕ) : sProp 𝕄 :=
  iprop(∃ W, ⌜(K (F := F)).WBelow (T d) W b⌝ ∗ owes (T d) ((K (F := F)).Otc d n) W)

/-- The pairs at levels at most `b`. -/
abbrev below (d : Dev nD) (b : ℕ) : Set (SemLoc sig × HIx 1) := {p | (K (F := F)).lev (T d, p.1) p.2 ≤ b}

/-- The two ghost states a region spends. -/
def regGhost (p : Fin 3) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

theorem owes_in (d : Dev nD) (n b : ℕ) (V : Conts F) (p : Fin 3) (hrec : ∀ c t, (rdats V ((K (F := F)).Otc d n) (below (F := F) d b) p c).recorded t = below (F := F) d b)
    (howed : ∀ c t, (rdats V ((K (F := F)).Otc d n) (below (F := F) d b) p c).owed t = (K (F := F)).Otc d n) :
    tcOw (F := F) d n b ⊢ (rdats V ((K (F := F)).Otc d n) (below (F := F) d b) p d).owesAt none 0 := by
  unfold tcOw RDat.owesAt Pipeline.owesWithin RDat.bound
  rw [howed, hrec]
  iintro ⟨%W, %hW, HO⟩
  iexists W
  isplitr
  · ipureintro; exact fun x hx => Or.inl (hW x hx)
  iexact HO

theorem owes_out (d : Dev nD) (n b : ℕ) (V : Conts F) (p : Fin 3) (hrec : ∀ c t, (rdats V ((K (F := F)).Otc d n) (below (F := F) d b) p c).recorded t = below (F := F) d b)
    (howed : ∀ c t, (rdats V ((K (F := F)).Otc d n) (below (F := F) d b) p c).owed t = (K (F := F)).Otc d n) (t) :
    (rdats V ((K (F := F)).Otc d n) (below (F := F) d b) p d).owesAt none t ⊢ tcOw (F := F) d n b := by
  unfold tcOw RDat.owesAt Pipeline.owesWithin RDat.bound
  rw [howed, hrec]
  iintro ⟨%W, %hW, HO⟩
  iexists W
  isplitr
  · ipureintro
    intro x hx
    rcases hW hx with h | ⟨w, s, rfl⟩
    · exact h
    · exact Nat.zero_le _
  iexact HO

section Arrays

variable (d : Dev nD) (V : Conts F) (O : CellTallies nD τ sig (HIx 1)) (R : Set (SemLoc sig × HIx 1))

/-- A whole buffer held through its memref is the buffer held. -/
theorem arr_pt (b : Ref sig .tc) (q : PosShare TreeShare) (f : b.ty.Contents (Elt F)) :
    ((Memref.whole b).view.loc (d.tc : Thread nD τ) ↦[(Memref.whole b).view.set]{q} f : sProp 𝕄) = (tl d b ↦{q} f) := by
  have h : (Memref.whole b).view.set = Finset.univ := View.set_whole b
  rw [h]

theorem arrays0 : (rd0 d V O R).arrays (rd0 d V O R).A
    = iprop((tl d main_v0 ↦{fullShare.left} V main_v0) ∗ (tl d main_v0 ↦{fullShare.right} V main_v0) ∗ (tl d main_v1 ↦{fullShare} V main_v1)) := by
  unfold RDat.arrays
  rw [bigSep_W0]
  refine congrArg₂ BI.sep (arr_pt d main_v0 _ _) (congrArg₂ BI.sep (arr_pt d main_v0 _ _) (arr_pt d main_v1 _ _))

theorem arrays1 : (rd1 d V O R).arrays (rd1 d V O R).A
    = iprop((tl d main_v8 ↦{fullShare} V main_v8) ∗ (tl d main_v10 ↦{fullShare} V main_v10) ∗ (tl d main_arg2 ↦{fullShare} V main_arg2)
      ∗ (tl d main_v13 ↦{fullShare} V main_v13) ∗ (tl d main_v11 ↦{fullShare} V main_v11) ∗ (tl d main_v12 ↦{fullShare} V main_v12)
      ∗ (tl d main_v14_0 ↦{fullShare} V main_v14_0) ∗ (tl d main_v14_1 ↦{fullShare} V main_v14_1)) := by
  unfold RDat.arrays
  rw [bigSep_W2]
  exact congrArg₂ BI.sep (arr_pt d main_v8 _ _) (congrArg₂ BI.sep (arr_pt d main_v10 _ _) (congrArg₂ BI.sep (arr_pt d main_arg2 _ _)
    (congrArg₂ BI.sep (arr_pt d main_v13 _ _) (congrArg₂ BI.sep (arr_pt d main_v11 _ _) (congrArg₂ BI.sep (arr_pt d main_v12 _ _)
      (congrArg₂ BI.sep (arr_pt d main_v14_0 _ _) (arr_pt d main_v14_1 _ _)))))))

theorem arrays2 : (rd2 d V O R).arrays (rd2 d V O R).A
    = iprop((tl d main_v14_0 ↦{fullShare} V main_v14_0) ∗ (tl d main_v11 ↦{fullShare} V main_v11) ∗ (tl d main_v12 ↦{fullShare} V main_v12)
      ∗ (tl d main_v14_1 ↦{fullShare} V main_v14_1) ∗ (tl d main_v15 ↦{fullShare} V main_v15)) := by
  unfold RDat.arrays
  rw [bigSep_W3]
  exact congrArg₂ BI.sep (arr_pt d main_v14_0 _ _) (congrArg₂ BI.sep (arr_pt d main_v11 _ _) (congrArg₂ BI.sep (arr_pt d main_v12 _ _)
    (congrArg₂ BI.sep (arr_pt d main_v14_1 _ _) (arr_pt d main_v15 _ _))))

theorem left0 : (rd0 d V O R).arraysAt cfg0.N
    ⊢ iprop(∃ G, ⌜Meets G (tgt1 (d := d) (V main_v0))⌝ ∗ (tl d main_v1 ↦{fullShare} G)) := by
  unfold RDat.arraysAt
  rw [bigSep_W0]
  iintro ⟨-, -, ⟨%G, %hG, H⟩⟩
  iexists G
  isplitr
  · ipureintro; exact meets0 d V O R G hG
  · iapply (show ((((cfg0.win 2).arr.view.loc (d.tc : Thread nD τ) ↦[(cfg0.win 2).arr.view.set]{(rd0 d V O R).share 2} G) : sProp 𝕄)) ⊢ (tl d main_v1 ↦{fullShare} G : sProp 𝕄) from (Entails.of_eq (arr_pt d main_v1 fullShare G))) $$ H

theorem left1 : (rd1 d V O R).arraysAt cfg2.N
    ⊢ iprop((tl d main_arg2 ↦{fullShare} V main_arg2) ∗ (tl d main_v11 ↦{fullShare} V main_v11) ∗ (tl d main_v12 ↦{fullShare} V main_v12)
      ∗ (tl d main_v14_0 ↦{fullShare} hid d V) ∗ (tl d main_v14_1 ↦{fullShare} k2_pay4 (acc d V 25))) := by
  unfold RDat.arraysAt
  rw [bigSep_W2]
  iintro ⟨-, -, ⟨%G2, %h2, H2⟩, -, ⟨%G4, %h4, H4⟩, ⟨%G5, %h5, H5⟩, ⟨%G6, %h6, H6⟩, ⟨%G7, %h7, H7⟩⟩
  have e2 : G2 = V main_arg2 := by rw [Pipeline.RDat.ArrAt_in _ 2 rfl] at h2; exact h2
  have e4 : G4 = V main_v11 := by rw [Pipeline.RDat.ArrAt_in _ 4 rfl] at h4; exact h4
  have e5 : G5 = V main_v12 := by rw [Pipeline.RDat.ArrAt_in _ 5 rfl] at h5; exact h5
  have e6 := hid1 d V O R G6 h6
  have e7 := lse1 d V O R G7 h7
  subst e2 e4 e5 e6 e7
  isplitl [H2]
  · iapply (show ((((cfg2.win 2).arr.view.loc (d.tc : Thread nD τ) ↦[(cfg2.win 2).arr.view.set]{(rd1 d V O R).share 2} V main_arg2) : sProp 𝕄)) ⊢ (tl d main_arg2 ↦{fullShare} V main_arg2 : sProp 𝕄) from (Entails.of_eq (arr_pt d main_arg2 fullShare _))) $$ H2
  isplitl [H4]
  · iapply (show ((((cfg2.win 4).arr.view.loc (d.tc : Thread nD τ) ↦[(cfg2.win 4).arr.view.set]{(rd1 d V O R).share 4} V main_v11) : sProp 𝕄)) ⊢ (tl d main_v11 ↦{fullShare} V main_v11 : sProp 𝕄) from (Entails.of_eq (arr_pt d main_v11 fullShare _))) $$ H4
  isplitl [H5]
  · iapply (show ((((cfg2.win 5).arr.view.loc (d.tc : Thread nD τ) ↦[(cfg2.win 5).arr.view.set]{(rd1 d V O R).share 5} V main_v12) : sProp 𝕄)) ⊢ (tl d main_v12 ↦{fullShare} V main_v12 : sProp 𝕄) from (Entails.of_eq (arr_pt d main_v12 fullShare _))) $$ H5
  isplitl [H6]
  · iapply (show ((((cfg2.win 6).arr.view.loc (d.tc : Thread nD τ) ↦[(cfg2.win 6).arr.view.set]{(rd1 d V O R).share 6} hid d V) : sProp 𝕄)) ⊢ (tl d main_v14_0 ↦{fullShare} hid d V : sProp 𝕄) from (Entails.of_eq (arr_pt d main_v14_0 fullShare _))) $$ H6
  · iapply (show ((((cfg2.win 7).arr.view.loc (d.tc : Thread nD τ) ↦[(cfg2.win 7).arr.view.set]{(rd1 d V O R).share 7} k2_pay4 (acc d V 25)) : sProp 𝕄)) ⊢ (tl d main_v14_1 ↦{fullShare} k2_pay4 (acc d V 25) : sProp 𝕄) from (Entails.of_eq (arr_pt d main_v14_1 fullShare _))) $$ H7

theorem left2 : (rd2 d V O R).arraysAt cfg3.N
    ⊢ (tl d main_v15 ↦{fullShare} outT (F := F) (V main_v11) (V main_v14_0) (V main_v12) (V main_v14_1) : sProp 𝕄) := by
  unfold RDat.arraysAt
  rw [bigSep_W3]
  iintro ⟨-, -, -, -, ⟨%G, %hG, H⟩⟩
  have e := outT2 d V O R G hG
  subst e
  iapply (show ((((cfg3.win 4).arr.view.loc (d.tc : Thread nD τ) ↦[(cfg3.win 4).arr.view.set]{(rd2 d V O R).share 4} outT (F := F) (V main_v11) (V main_v14_0) (V main_v12) (V main_v14_1)) : sProp 𝕄)) ⊢ (tl d main_v15 ↦{fullShare} outT (F := F) (V main_v11) (V main_v14_0) (V main_v12) (V main_v14_1) : sProp 𝕄) from
    (Entails.of_eq (arr_pt d main_v15 fullShare _))) $$ H

end Arrays

/-! ## The regions, by the arrays they read and write -/

variable (d : Dev nD) (n b : ℕ)

theorem region0 (V : Conts F) (Q : PUnit → sProp 𝕄) :
    iprop(levAts (K (F := F)).L (K (F := F)).lev ∗ boundary (T d) ∗ tcOw (F := F) d n b ∗ regGhost (F := F) 0 d
        ∗ (tl d main_v0 ↦{fullShare} V main_v0) ∗ (tl d main_v1 ↦{fullShare} V main_v1)
        ∗ (iprop(boundary (T d) ∗ tcOw (F := F) d n b ∗ ∃ G, ⌜Meets G (tgt1 (d := d) (V main_v0))⌝ ∗ (tl d main_v1 ↦{fullShare} G)) -∗ Q ⟨⟩))
      ⊢ wp frame (wpE ((K (F := F)).defs D) 𝒱 (T d) none) Set.univ
          (Prog.lift (.customCall (SparseCore.inner (Pipeline.entry 0)) ())) Q := by
  refine BI.Entails.trans ?_ (seg_wp V ((K (F := F)).Otc d n) (below (F := F) d b) 0 (seg0 V _ _ (otc_none d n)) d Q)
  show _ ⊢ iprop((iprop(boundary (T d) ∗ (rd0 d V ((K (F := F)).Otc d n) (below (F := F) d b)).arraysAt cfg0.N
      ∗ (rdats V ((K (F := F)).Otc d n) (below (F := F) d b) 0 d).owesAt none (Fin.last _)) -∗ Q ⟨⟩)
    ∗ boundary (T d) ∗ ((rd0 d V ((K (F := F)).Otc d n) (below (F := F) d b)).arrays (rd0 d V ((K (F := F)).Otc d n) (below (F := F) d b)).A
      ∗ (rdats V ((K (F := F)).Otc d n) (below (F := F) d b) 0 d).owesAt none 0)
    ∗ levAts (K (F := F)).L (K (F := F)).lev
    ∗ regGhost (F := F) 0 d)
  rw [arrays0]
  iintro ⟨Hl, Hb, HO, Hg, H0, H1, HQ⟩
  isplitl [HQ]
  · iintro ⟨Hb, Ha, HO⟩
    iapply HQ
    isplitl [Hb]; · iexact Hb
    isplitl [HO]
    · iapply (owes_out d n b V 0 (fun _ _ => rfl) (fun _ _ => rfl) _) $$ HO
    iapply (left0 d V _ _) $$ Ha
  isplitl [Hb]; · iexact Hb
  isplitl [H0 H1 HO]
  · isplitl [H0 H1]
    · ihave H0 := (pointsTo_share (PosShare.mem_left_op_right fullShare)).1 $$ H0
      icases H0 with ⟨Ha, Hb⟩
      isplitl [Ha]; · iexact Ha
      isplitl [Hb]; · iexact Hb
      iexact H1
    iapply (owes_in d n b V 0 (fun _ _ => rfl) (fun _ _ => rfl)) $$ HO
  isplitl [Hl]; · iexact Hl
  iexact Hg

theorem region1 (V : Conts F) (Q : PUnit → sProp 𝕄) :
    iprop(levAts (K (F := F)).L (K (F := F)).lev ∗ boundary (T d) ∗ tcOw (F := F) d n b ∗ regGhost (F := F) 1 d
        ∗ ((tl d main_v8 ↦{fullShare} V main_v8) ∗ (tl d main_v10 ↦{fullShare} V main_v10) ∗ (tl d main_arg2 ↦{fullShare} V main_arg2)
          ∗ (tl d main_v13 ↦{fullShare} V main_v13) ∗ (tl d main_v11 ↦{fullShare} V main_v11) ∗ (tl d main_v12 ↦{fullShare} V main_v12)
          ∗ (tl d main_v14_0 ↦{fullShare} V main_v14_0) ∗ (tl d main_v14_1 ↦{fullShare} V main_v14_1))
        ∗ (iprop(boundary (T d) ∗ tcOw (F := F) d n b
          ∗ (tl d main_arg2 ↦{fullShare} V main_arg2) ∗ (tl d main_v11 ↦{fullShare} V main_v11) ∗ (tl d main_v12 ↦{fullShare} V main_v12)
          ∗ (tl d main_v14_0 ↦{fullShare} hid d V) ∗ (tl d main_v14_1 ↦{fullShare} k2_pay4 (acc d V 25))) -∗ Q ⟨⟩))
      ⊢ wp frame (wpE ((K (F := F)).defs D) 𝒱 (T d) none) Set.univ
          (Prog.lift (.customCall (SparseCore.inner (Pipeline.entry 1)) ())) Q := by
  refine BI.Entails.trans ?_ (seg_wp V ((K (F := F)).Otc d n) (below (F := F) d b) 1 (seg1 V _ _ (otc_none d n)) d Q)
  show _ ⊢ iprop((iprop(boundary (T d) ∗ (rd1 d V ((K (F := F)).Otc d n) (below (F := F) d b)).arraysAt cfg2.N
      ∗ (rdats V ((K (F := F)).Otc d n) (below (F := F) d b) 1 d).owesAt none (Fin.last _)) -∗ Q ⟨⟩)
    ∗ boundary (T d) ∗ ((rd1 d V ((K (F := F)).Otc d n) (below (F := F) d b)).arrays (rd1 d V ((K (F := F)).Otc d n) (below (F := F) d b)).A
      ∗ (rdats V ((K (F := F)).Otc d n) (below (F := F) d b) 1 d).owesAt none 0)
    ∗ levAts (K (F := F)).L (K (F := F)).lev
    ∗ regGhost (F := F) 1 d)
  rw [arrays1]
  iintro ⟨Hl, Hb, HO, Hg, Ha, HQ⟩
  isplitl [HQ]
  · iintro ⟨Hb, Ha, HO⟩
    iapply HQ
    isplitl [Hb]; · iexact Hb
    isplitl [HO]
    · iapply (owes_out d n b V 1 (fun _ _ => rfl) (fun _ _ => rfl) _) $$ HO
    iapply (left1 d V _ _) $$ Ha
  isplitl [Hb]; · iexact Hb
  isplitl [Ha HO]
  · isplitl [Ha]; · iexact Ha
    iapply (owes_in d n b V 1 (fun _ _ => rfl) (fun _ _ => rfl)) $$ HO
  isplitl [Hl]; · iexact Hl
  iexact Hg

theorem region2 (V : Conts F) (Q : PUnit → sProp 𝕄) :
    iprop(levAts (K (F := F)).L (K (F := F)).lev ∗ boundary (T d) ∗ tcOw (F := F) d n b ∗ regGhost (F := F) 2 d
        ∗ ((tl d main_v14_0 ↦{fullShare} V main_v14_0) ∗ (tl d main_v11 ↦{fullShare} V main_v11) ∗ (tl d main_v12 ↦{fullShare} V main_v12)
          ∗ (tl d main_v14_1 ↦{fullShare} V main_v14_1) ∗ (tl d main_v15 ↦{fullShare} V main_v15))
        ∗ (iprop(boundary (T d) ∗ tcOw (F := F) d n b
          ∗ (tl d main_v15 ↦{fullShare} outT (F := F) (V main_v11) (V main_v14_0) (V main_v12) (V main_v14_1))) -∗ Q ⟨⟩))
      ⊢ wp frame (wpE ((K (F := F)).defs D) 𝒱 (T d) none) Set.univ
          (Prog.lift (.customCall (SparseCore.inner (Pipeline.entry 2)) ())) Q := by
  refine BI.Entails.trans ?_ (seg_wp V ((K (F := F)).Otc d n) (below (F := F) d b) 2 (seg2 V _ _ (otc_none d n)) d Q)
  show _ ⊢ iprop((iprop(boundary (T d) ∗ (rd2 d V ((K (F := F)).Otc d n) (below (F := F) d b)).arraysAt cfg3.N
      ∗ (rdats V ((K (F := F)).Otc d n) (below (F := F) d b) 2 d).owesAt none (Fin.last _)) -∗ Q ⟨⟩)
    ∗ boundary (T d) ∗ ((rd2 d V ((K (F := F)).Otc d n) (below (F := F) d b)).arrays (rd2 d V ((K (F := F)).Otc d n) (below (F := F) d b)).A
      ∗ (rdats V ((K (F := F)).Otc d n) (below (F := F) d b) 2 d).owesAt none 0)
    ∗ levAts (K (F := F)).L (K (F := F)).lev
    ∗ regGhost (F := F) 2 d)
  rw [arrays2]
  iintro ⟨Hl, Hb, HO, Hg, Ha, HQ⟩
  isplitl [HQ]
  · iintro ⟨Hb, Ha, HO⟩
    iapply HQ
    isplitl [Hb]; · iexact Hb
    isplitl [HO]
    · iapply (owes_out d n b V 2 (fun _ _ => rfl) (fun _ _ => rfl) _) $$ HO
    iapply (left2 d V _ _) $$ Ha
  isplitl [Hb]; · iexact Hb
  isplitl [Ha HO]
  · isplitl [Ha]; · iexact Ha
    iapply (owes_in d n b V 2 (fun _ _ => rfl) (fun _ _ => rfl)) $$ HO
  isplitl [Hl]; · iexact Hl
  iexact Hg

end Cert.Proof

end
-- ==== Proof.Steps.lean ====
/-
  A tensor operation of @main as a step over the buffers it names: each is held whole at stated contents, and only
  the operation's result changes.
-/
module

public import proofs.«01_k».proof.Proof.Setup

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-- Some contents for every buffer. -/
def anyVal : Valuation τ sig (Elt F) := fun _ _ => Classical.arbitrary _

section Steps

variable (d : Dev nD)

theorem held_one (y : Ref sig .tc) (V : Valuation τ sig (Elt F)) :
    (StableHlo.held (T d) {(y : DevRef τ sig)} V : sProp 𝕄) = (tl d y ↦{fullShare} V y) := by
  unfold StableHlo.held; rw [bigSep_singleton]

theorem held_cons (y : Ref sig .tc) (S : Finset (DevRef τ sig)) (h : (y : DevRef τ sig) ∉ S) (V : Valuation τ sig (Elt F)) :
    (StableHlo.held (T d) (insert (y : DevRef τ sig) S) V : sProp 𝕄) = iprop((tl d y ↦{fullShare} V y) ∗ StableHlo.held (T d) S V) := by
  unfold StableHlo.held; rw [SparseCore.bigSep_insert' h]

theorem step_nullary (y : Ref sig .tc) (v : y.ty.Contents (Elt F)) (hy) (B : y.ty.Contents (Elt F)) (Q : PUnit → sProp 𝕄) :
    iprop(boundary (T d) ∗ (tl d y ↦{fullShare} B) ∗ (iprop(boundary (T d) ∗ (tl d y ↦{fullShare} v)) -∗ Q ⟨⟩))
      ⊢ wp frame (wpE ((K (F := F)).defs D) 𝒱 (T d) none) Set.univ (hlo rfl (StableHlo.nullary y v hy) (fun _ => .ret ⟨⟩)) Q := by
  let V : Valuation τ sig (Elt F) := Function.update anyVal (y : DevRef τ sig) B
  have e1 : (StableHlo.held (T d) {(y : DevRef τ sig)} V : sProp 𝕄) = (tl d y ↦{fullShare} B) := by
    rw [held_one]; exact congrArg (fun f => (tl d y ↦{fullShare} f : sProp 𝕄)) (Function.update_self _ _ _)
  have e2 : (StableHlo.held (T d) {(y : DevRef τ sig)} ((StableHlo.nullary y v hy : HloOp τ sig (Elt F)).result V) : sProp 𝕄) = (tl d y ↦{fullShare} v) := by
    rw [held_one, StableHlo.nullary_result]
  iintro ⟨Hb, Hy, HQ⟩
  iapply (StableHlo.wp_hlo_within 𝒱 (T d) none Set.univ (S := {(y : DevRef τ sig)}) (V := V) (op := StableHlo.nullary y v hy) (Finset.Subset.refl _)) $$ [Hb Hy]
  · isplitl [Hb]; · iexact Hb
    iapply (Entails.of_eq e1.symm) $$ Hy
  iintro ⟨Hb, Hy⟩
  rw [wp_ret]
  imodintro
  iapply HQ
  isplitl [Hb]; · iexact Hb
  iapply (Entails.of_eq e2) $$ Hy

theorem step_unary (a y : Ref sig .tc) (f : a.ty.Contents (Elt F) → y.ty.Contents (Elt F)) (ha hy) (A : a.ty.Contents (Elt F)) (B : y.ty.Contents (Elt F))
    (hay : (a : DevRef τ sig) ≠ (y : DevRef τ sig)) (R : y.ty.Contents (Elt F)) (hR : f A = R) (Q : PUnit → sProp 𝕄) :
    iprop(boundary (T d) ∗ (tl d a ↦{fullShare} A) ∗ (tl d y ↦{fullShare} B)
        ∗ (iprop(boundary (T d) ∗ (tl d a ↦{fullShare} A) ∗ (tl d y ↦{fullShare} R)) -∗ Q ⟨⟩))
      ⊢ wp frame (wpE ((K (F := F)).defs D) 𝒱 (T d) none) Set.univ (hlo rfl (StableHlo.unary a y f ha hy) (fun _ => .ret ⟨⟩)) Q := by
  let V : Valuation τ sig (Elt F) := Function.update (Function.update (anyVal) (a : DevRef τ sig) A) (y : DevRef τ sig) B
  have va : V (a : DevRef τ sig) = A := by
    simp only [V]; rw [Function.update_of_ne hay, Function.update_self]
  have vy : V (y : DevRef τ sig) = B := by
    simp only [V]; rw [Function.update_self]
  have e1 : (StableHlo.held (T d) {(a : DevRef τ sig), (y : DevRef τ sig)} V : sProp 𝕄) = iprop((tl d a ↦{fullShare} A) ∗ (tl d y ↦{fullShare} B)) := by
    rw [held_cons d a _ (by simp only [Finset.mem_insert, Finset.mem_singleton, not_or]; exact hay), held_one, va, vy]
  have ra : (StableHlo.unary a y f ha hy : HloOp τ sig (Elt F)).result V (a : DevRef τ sig) = A :=
    (HloOp.result_of_not_mem _ V (fun h => hay (Finset.mem_singleton.mp h))).trans va
  have ry : (StableHlo.unary a y f ha hy : HloOp τ sig (Elt F)).result V (y : DevRef τ sig) = R := by
    rw [StableHlo.unary_result, va]; exact hR
  have e2 : (StableHlo.held (T d) {(a : DevRef τ sig), (y : DevRef τ sig)} ((StableHlo.unary a y f ha hy : HloOp τ sig (Elt F)).result V) : sProp 𝕄) = iprop((tl d a ↦{fullShare} A) ∗ (tl d y ↦{fullShare} R)) := by
    rw [held_cons d a _ (by simp only [Finset.mem_insert, Finset.mem_singleton, not_or]; exact hay), held_one, ra, ry]
  iintro ⟨Hbd, Ha, Hy, HQ⟩
  iapply (StableHlo.wp_hlo_within 𝒱 (T d) none Set.univ (S := {(a : DevRef τ sig), (y : DevRef τ sig)}) (V := V) (op := StableHlo.unary a y f ha hy) (Finset.Subset.refl _)) $$ [Hbd Ha Hy]
  · isplitl [Hbd]; · iexact Hbd
    iapply (Entails.of_eq e1.symm)
    isplitl [Ha]; · iexact Ha
    iexact Hy
  iintro ⟨Hbd, Hy⟩
  rw [wp_ret]
  imodintro
  iapply HQ
  isplitl [Hbd]; · iexact Hbd
  iapply (Entails.of_eq e2) $$ Hy

theorem step_binary (a b y : Ref sig .tc) (f : a.ty.Contents (Elt F) → b.ty.Contents (Elt F) → y.ty.Contents (Elt F)) (ha hb hy) (A : a.ty.Contents (Elt F)) (A' : b.ty.Contents (Elt F)) (B : y.ty.Contents (Elt F))
    (hab : (a : DevRef τ sig) ≠ (b : DevRef τ sig)) (hay : (a : DevRef τ sig) ≠ (y : DevRef τ sig)) (hby : (b : DevRef τ sig) ≠ (y : DevRef τ sig)) (R : y.ty.Contents (Elt F)) (hR : f A A' = R) (Q : PUnit → sProp 𝕄) :
    iprop(boundary (T d) ∗ (tl d a ↦{fullShare} A) ∗ (tl d b ↦{fullShare} A') ∗ (tl d y ↦{fullShare} B)
        ∗ (iprop(boundary (T d) ∗ (tl d a ↦{fullShare} A) ∗ (tl d b ↦{fullShare} A') ∗ (tl d y ↦{fullShare} R)) -∗ Q ⟨⟩))
      ⊢ wp frame (wpE ((K (F := F)).defs D) 𝒱 (T d) none) Set.univ (hlo rfl (StableHlo.binary a b y f ha hb hy) (fun _ => .ret ⟨⟩)) Q := by
  let V : Valuation τ sig (Elt F) := Function.update (Function.update (Function.update (anyVal) (a : DevRef τ sig) A) (b : DevRef τ sig) A') (y : DevRef τ sig) B
  have va : V (a : DevRef τ sig) = A := by
    simp only [V]; rw [Function.update_of_ne hay, Function.update_of_ne hab, Function.update_self]
  have vb : V (b : DevRef τ sig) = A' := by
    simp only [V]; rw [Function.update_of_ne hby, Function.update_self]
  have vy : V (y : DevRef τ sig) = B := by
    simp only [V]; rw [Function.update_self]
  have e1 : (StableHlo.held (T d) {(a : DevRef τ sig), (b : DevRef τ sig), (y : DevRef τ sig)} V : sProp 𝕄) = iprop((tl d a ↦{fullShare} A) ∗ (tl d b ↦{fullShare} A') ∗ (tl d y ↦{fullShare} B)) := by
    rw [held_cons d a _ (by simp only [Finset.mem_insert, Finset.mem_singleton, not_or]; exact ⟨hab, hay⟩), held_cons d b _ (by simp only [Finset.mem_insert, Finset.mem_singleton, not_or]; exact hby), held_one, va, vb, vy]
  have ra : (StableHlo.binary a b y f ha hb hy : HloOp τ sig (Elt F)).result V (a : DevRef τ sig) = A :=
    (HloOp.result_of_not_mem _ V (fun h => hay (Finset.mem_singleton.mp h))).trans va
  have rb : (StableHlo.binary a b y f ha hb hy : HloOp τ sig (Elt F)).result V (b : DevRef τ sig) = A' :=
    (HloOp.result_of_not_mem _ V (fun h => hby (Finset.mem_singleton.mp h))).trans vb
  have ry : (StableHlo.binary a b y f ha hb hy : HloOp τ sig (Elt F)).result V (y : DevRef τ sig) = R := by
    rw [StableHlo.binary_result, va, vb]; exact hR
  have e2 : (StableHlo.held (T d) {(a : DevRef τ sig), (b : DevRef τ sig), (y : DevRef τ sig)} ((StableHlo.binary a b y f ha hb hy : HloOp τ sig (Elt F)).result V) : sProp 𝕄) = iprop((tl d a ↦{fullShare} A) ∗ (tl d b ↦{fullShare} A') ∗ (tl d y ↦{fullShare} R)) := by
    rw [held_cons d a _ (by simp only [Finset.mem_insert, Finset.mem_singleton, not_or]; exact ⟨hab, hay⟩), held_cons d b _ (by simp only [Finset.mem_insert, Finset.mem_singleton, not_or]; exact hby), held_one, ra, rb, ry]
  iintro ⟨Hbd, Ha, Hb, Hy, HQ⟩
  iapply (StableHlo.wp_hlo_within 𝒱 (T d) none Set.univ (S := {(a : DevRef τ sig), (b : DevRef τ sig), (y : DevRef τ sig)}) (V := V) (op := StableHlo.binary a b y f ha hb hy) (Finset.Subset.refl _)) $$ [Hbd Ha Hb Hy]
  · isplitl [Hbd]; · iexact Hbd
    iapply (Entails.of_eq e1.symm)
    isplitl [Ha]; · iexact Ha
    isplitl [Hb]; · iexact Hb
    iexact Hy
  iintro ⟨Hbd, Hy⟩
  rw [wp_ret]
  imodintro
  iapply HQ
  isplitl [Hbd]; · iexact Hbd
  iapply (Entails.of_eq e2) $$ Hy

theorem step_ternary (c a b y : Ref sig .tc) (f : c.ty.Contents (Elt F) → a.ty.Contents (Elt F) → b.ty.Contents (Elt F) → y.ty.Contents (Elt F)) (hc ha hb hy) (C : c.ty.Contents (Elt F)) (A : a.ty.Contents (Elt F)) (A' : b.ty.Contents (Elt F)) (B : y.ty.Contents (Elt F))
    (hca : (c : DevRef τ sig) ≠ (a : DevRef τ sig)) (hcb : (c : DevRef τ sig) ≠ (b : DevRef τ sig)) (hcy : (c : DevRef τ sig) ≠ (y : DevRef τ sig)) (hab : (a : DevRef τ sig) ≠ (b : DevRef τ sig)) (hay : (a : DevRef τ sig) ≠ (y : DevRef τ sig)) (hby : (b : DevRef τ sig) ≠ (y : DevRef τ sig)) (R : y.ty.Contents (Elt F)) (hR : f C A A' = R) (Q : PUnit → sProp 𝕄) :
    iprop(boundary (T d) ∗ (tl d c ↦{fullShare} C) ∗ (tl d a ↦{fullShare} A) ∗ (tl d b ↦{fullShare} A') ∗ (tl d y ↦{fullShare} B)
        ∗ (iprop(boundary (T d) ∗ (tl d c ↦{fullShare} C) ∗ (tl d a ↦{fullShare} A) ∗ (tl d b ↦{fullShare} A') ∗ (tl d y ↦{fullShare} R)) -∗ Q ⟨⟩))
      ⊢ wp frame (wpE ((K (F := F)).defs D) 𝒱 (T d) none) Set.univ (hlo rfl (StableHlo.ternary c a b y f hc ha hb hy) (fun _ => .ret ⟨⟩)) Q := by
  let V : Valuation τ sig (Elt F) := Function.update (Function.update (Function.update (Function.update (anyVal) (c : DevRef τ sig) C) (a : DevRef τ sig) A) (b : DevRef τ sig) A') (y : DevRef τ sig) B
  have vc : V (c : DevRef τ sig) = C := by
    simp only [V]; rw [Function.update_of_ne hcy, Function.update_of_ne hcb, Function.update_of_ne hca, Function.update_self]
  have va : V (a : DevRef τ sig) = A := by
    simp only [V]; rw [Function.update_of_ne hay, Function.update_of_ne hab, Function.update_self]
  have vb : V (b : DevRef τ sig) = A' := by
    simp only [V]; rw [Function.update_of_ne hby, Function.update_self]
  have vy : V (y : DevRef τ sig) = B := by
    simp only [V]; rw [Function.update_self]
  have e1 : (StableHlo.held (T d) {(c : DevRef τ sig), (a : DevRef τ sig), (b : DevRef τ sig), (y : DevRef τ sig)} V : sProp 𝕄) = iprop((tl d c ↦{fullShare} C) ∗ (tl d a ↦{fullShare} A) ∗ (tl d b ↦{fullShare} A') ∗ (tl d y ↦{fullShare} B)) := by
    rw [held_cons d c _ (by simp only [Finset.mem_insert, Finset.mem_singleton, not_or]; exact ⟨hca, hcb, hcy⟩), held_cons d a _ (by simp only [Finset.mem_insert, Finset.mem_singleton, not_or]; exact ⟨hab, hay⟩), held_cons d b _ (by simp only [Finset.mem_insert, Finset.mem_singleton, not_or]; exact hby), held_one, vc, va, vb, vy]
  have rc : (StableHlo.ternary c a b y f hc ha hb hy : HloOp τ sig (Elt F)).result V (c : DevRef τ sig) = C :=
    (HloOp.result_of_not_mem _ V (fun h => hcy (Finset.mem_singleton.mp h))).trans vc
  have ra : (StableHlo.ternary c a b y f hc ha hb hy : HloOp τ sig (Elt F)).result V (a : DevRef τ sig) = A :=
    (HloOp.result_of_not_mem _ V (fun h => hay (Finset.mem_singleton.mp h))).trans va
  have rb : (StableHlo.ternary c a b y f hc ha hb hy : HloOp τ sig (Elt F)).result V (b : DevRef τ sig) = A' :=
    (HloOp.result_of_not_mem _ V (fun h => hby (Finset.mem_singleton.mp h))).trans vb
  have ry : (StableHlo.ternary c a b y f hc ha hb hy : HloOp τ sig (Elt F)).result V (y : DevRef τ sig) = R := by
    rw [StableHlo.ternary_result, vc, va, vb]; exact hR
  have e2 : (StableHlo.held (T d) {(c : DevRef τ sig), (a : DevRef τ sig), (b : DevRef τ sig), (y : DevRef τ sig)} ((StableHlo.ternary c a b y f hc ha hb hy : HloOp τ sig (Elt F)).result V) : sProp 𝕄) = iprop((tl d c ↦{fullShare} C) ∗ (tl d a ↦{fullShare} A) ∗ (tl d b ↦{fullShare} A') ∗ (tl d y ↦{fullShare} R)) := by
    rw [held_cons d c _ (by simp only [Finset.mem_insert, Finset.mem_singleton, not_or]; exact ⟨hca, hcb, hcy⟩), held_cons d a _ (by simp only [Finset.mem_insert, Finset.mem_singleton, not_or]; exact ⟨hab, hay⟩), held_cons d b _ (by simp only [Finset.mem_insert, Finset.mem_singleton, not_or]; exact hby), held_one, rc, ra, rb, ry]
  iintro ⟨Hbd, Hc, Ha, Hb, Hy, HQ⟩
  iapply (StableHlo.wp_hlo_within 𝒱 (T d) none Set.univ (S := {(c : DevRef τ sig), (a : DevRef τ sig), (b : DevRef τ sig), (y : DevRef τ sig)}) (V := V) (op := StableHlo.ternary c a b y f hc ha hb hy) (Finset.Subset.refl _)) $$ [Hbd Hc Ha Hb Hy]
  · isplitl [Hbd]; · iexact Hbd
    iapply (Entails.of_eq e1.symm)
    isplitl [Hc]; · iexact Hc
    isplitl [Ha]; · iexact Ha
    isplitl [Hb]; · iexact Hb
    iexact Hy
  iintro ⟨Hbd, Hy⟩
  rw [wp_ret]
  imodintro
  iapply HQ
  isplitl [Hbd]; · iexact Hbd
  iapply (Entails.of_eq e2) $$ Hy

theorem step_reshape (a y : Ref sig .tc) (he : a.ty.elt = y.ty.elt) (hn : a.ty.shape.ShapeCasts y.ty.shape) (ha hy) (A : a.ty.Contents (Elt F)) (B : y.ty.Contents (Elt F))
    (hay : (a : DevRef τ sig) ≠ (y : DevRef τ sig)) (R : y.ty.Contents (Elt F)) (hR : (fun i => he ▸ shapeCast y.ty.shape A hn i) = R) (Q : PUnit → sProp 𝕄) :
    iprop(boundary (T d) ∗ (tl d a ↦{fullShare} A) ∗ (tl d y ↦{fullShare} B)
        ∗ (iprop(boundary (T d) ∗ (tl d a ↦{fullShare} A) ∗ (tl d y ↦{fullShare} R)) -∗ Q ⟨⟩))
      ⊢ wp frame (wpE ((K (F := F)).defs D) 𝒱 (T d) none) Set.univ (hlo rfl (StableHlo.reshape a y he hn ha hy) (fun _ => .ret ⟨⟩)) Q := by
  let V : Valuation τ sig (Elt F) := Function.update (Function.update (anyVal) (a : DevRef τ sig) A) (y : DevRef τ sig) B
  have va : V (a : DevRef τ sig) = A := by
    simp only [V]; rw [Function.update_of_ne hay, Function.update_self]
  have vy : V (y : DevRef τ sig) = B := by
    simp only [V]; rw [Function.update_self]
  have e1 : (StableHlo.held (T d) {(a : DevRef τ sig), (y : DevRef τ sig)} V : sProp 𝕄) = iprop((tl d a ↦{fullShare} A) ∗ (tl d y ↦{fullShare} B)) := by
    rw [held_cons d a _ (by simp only [Finset.mem_insert, Finset.mem_singleton, not_or]; exact hay), held_one, va, vy]
  have ra : (StableHlo.reshape a y he hn ha hy : HloOp τ sig (Elt F)).result V (a : DevRef τ sig) = A :=
    (HloOp.result_of_not_mem _ V (fun h => hay (Finset.mem_singleton.mp h))).trans va
  have ry : (StableHlo.reshape a y he hn ha hy : HloOp τ sig (Elt F)).result V (y : DevRef τ sig) = R := by
    rw [StableHlo.reshape_result, va]; exact hR
  have e2 : (StableHlo.held (T d) {(a : DevRef τ sig), (y : DevRef τ sig)} ((StableHlo.reshape a y he hn ha hy : HloOp τ sig (Elt F)).result V) : sProp 𝕄) = iprop((tl d a ↦{fullShare} A) ∗ (tl d y ↦{fullShare} R)) := by
    rw [held_cons d a _ (by simp only [Finset.mem_insert, Finset.mem_singleton, not_or]; exact hay), held_one, ra, ry]
  iintro ⟨Hbd, Ha, Hy, HQ⟩
  iapply (StableHlo.wp_hlo_within 𝒱 (T d) none Set.univ (S := {(a : DevRef τ sig), (y : DevRef τ sig)}) (V := V) (op := StableHlo.reshape a y he hn ha hy) (Finset.Subset.refl _)) $$ [Hbd Ha Hy]
  · isplitl [Hbd]; · iexact Hbd
    iapply (Entails.of_eq e1.symm)
    isplitl [Ha]; · iexact Ha
    iexact Hy
  iintro ⟨Hbd, Hy⟩
  rw [wp_ret]
  imodintro
  iapply HQ
  isplitl [Hbd]; · iexact Hbd
  iapply (Entails.of_eq e2) $$ Hy

end Steps

end Cert.Proof

end
-- ==== Proof.Launch.lean ====
/-
  The launch: what the threads are dealt, @main's run on the TensorCore from the launch memory to the result, and the
  run of the whole program.
-/
module

public import proofs.«01_k».proof.Proof.Regions
public import proofs.«01_k».proof.Proof.Steps

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The regions at stated contents -/

section Regions

variable (d : Dev nD) (n b : ℕ)

/-- Contents for every array of @main. -/
def anyConts : Conts F := fun _ _ => Classical.arbitrary _

theorem region0_at (x0 : main_v0.ty.Contents (Elt F)) (x1 : main_v1.ty.Contents (Elt F)) (Q : PUnit → sProp 𝕄) :
    iprop(levAts (K (F := F)).L (K (F := F)).lev ∗ boundary (T d) ∗ tcOw (F := F) d n b ∗ regGhost (F := F) 0 d
        ∗ (tl d main_v0 ↦{fullShare} x0) ∗ (tl d main_v1 ↦{fullShare} x1)
        ∗ (iprop(boundary (T d) ∗ tcOw (F := F) d n b ∗ ∃ G, ⌜Meets G (tgt1 (d := d) x0)⌝ ∗ (tl d main_v1 ↦{fullShare} G)) -∗ Q ⟨⟩))
      ⊢ wp frame (wpE ((K (F := F)).defs D) 𝒱 (T d) none) Set.univ
          (Prog.lift (.customCall (SparseCore.inner (Pipeline.entry 0)) ())) Q := by
  obtain ⟨V, h0, h1⟩ : ∃ V : Conts F, V main_v0 = x0 ∧ V main_v1 = x1 := by
    refine ⟨Function.update (Function.update anyConts main_v0 x0) main_v1 x1, ?_, ?_⟩ <;>
      (repeat rw [Function.update_of_ne (by decide)]) <;> rw [Function.update_self]
  subst h0 h1
  exact region0 d n b V Q

/-- The running totals' last value as the first pass leaves it, logarithm taken. -/
abbrev lseOf (W : S100000x128.Idx → Elt F .f32) (B : S25x1x4000.Idx → Elt F .f32) (H : S128x1024.Idx → Elt F .bf16) : S1x1024.Idx → Elt F .f32 :=
  k2_pay4 (accs W B H 25)

theorem region1_at (x8 : main_v8.ty.Contents (Elt F)) (x10 : main_v10.ty.Contents (Elt F)) (x2 : main_arg2.ty.Contents (Elt F))
    (x13 : main_v13.ty.Contents (Elt F)) (x11 : main_v11.ty.Contents (Elt F)) (x12 : main_v12.ty.Contents (Elt F))
    (y0 : main_v14_0.ty.Contents (Elt F)) (y1 : main_v14_1.ty.Contents (Elt F)) (Q : PUnit → sProp 𝕄) :
    iprop(levAts (K (F := F)).L (K (F := F)).lev ∗ boundary (T d) ∗ tcOw (F := F) d n b ∗ regGhost (F := F) 1 d
        ∗ ((tl d main_v8 ↦{fullShare} x8) ∗ (tl d main_v10 ↦{fullShare} x10) ∗ (tl d main_arg2 ↦{fullShare} x2)
          ∗ (tl d main_v13 ↦{fullShare} x13) ∗ (tl d main_v11 ↦{fullShare} x11) ∗ (tl d main_v12 ↦{fullShare} x12)
          ∗ (tl d main_v14_0 ↦{fullShare} y0) ∗ (tl d main_v14_1 ↦{fullShare} y1))
        ∗ (iprop(boundary (T d) ∗ tcOw (F := F) d n b
          ∗ (tl d main_arg2 ↦{fullShare} x2) ∗ (tl d main_v11 ↦{fullShare} x11) ∗ (tl d main_v12 ↦{fullShare} x12)
          ∗ (tl d main_v14_0 ↦{fullShare} (k2_pay1 x8 x10 x2 x13 : S128x1024.Idx → Elt F .bf16))
          ∗ (tl d main_v14_1 ↦{fullShare} lseOf (F := F) x11 x12 (k2_pay1 x8 x10 x2 x13))) -∗ Q ⟨⟩))
      ⊢ wp frame (wpE ((K (F := F)).defs D) 𝒱 (T d) none) Set.univ
          (Prog.lift (.customCall (SparseCore.inner (Pipeline.entry 1)) ())) Q := by
  obtain ⟨V, h8, h10, h2, h13, h11, h12, h0, h1⟩ : ∃ V : Conts F, V main_v8 = x8 ∧ V main_v10 = x10 ∧ V main_arg2 = x2 ∧ V main_v13 = x13
      ∧ V main_v11 = x11 ∧ V main_v12 = x12 ∧ V main_v14_0 = y0 ∧ V main_v14_1 = y1 := by
    refine ⟨Function.update (Function.update (Function.update (Function.update (Function.update (Function.update (Function.update (Function.update anyConts
      main_v8 x8) main_v10 x10) main_arg2 x2) main_v13 x13) main_v11 x11) main_v12 x12) main_v14_0 y0) main_v14_1 y1, ?_, ?_, ?_, ?_, ?_, ?_, ?_, ?_⟩ <;>
      (repeat rw [Function.update_of_ne (by decide)]) <;> rw [Function.update_self]
  subst h8 h10 h2 h13 h11 h12 h0 h1
  exact region1 d n b V Q

theorem region2_at (x0 : main_v14_0.ty.Contents (Elt F)) (x11 : main_v11.ty.Contents (Elt F)) (x12 : main_v12.ty.Contents (Elt F))
    (x1 : main_v14_1.ty.Contents (Elt F)) (y : main_v15.ty.Contents (Elt F)) (Q : PUnit → sProp 𝕄) :
    iprop(levAts (K (F := F)).L (K (F := F)).lev ∗ boundary (T d) ∗ tcOw (F := F) d n b ∗ regGhost (F := F) 2 d
        ∗ ((tl d main_v14_0 ↦{fullShare} x0) ∗ (tl d main_v11 ↦{fullShare} x11) ∗ (tl d main_v12 ↦{fullShare} x12)
          ∗ (tl d main_v14_1 ↦{fullShare} x1) ∗ (tl d main_v15 ↦{fullShare} y))
        ∗ (iprop(boundary (T d) ∗ tcOw (F := F) d n b
          ∗ (tl d main_v15 ↦{fullShare} outT (F := F) x11 x0 x12 x1)) -∗ Q ⟨⟩))
      ⊢ wp frame (wpE ((K (F := F)).defs D) 𝒱 (T d) none) Set.univ
          (Prog.lift (.customCall (SparseCore.inner (Pipeline.entry 2)) ())) Q := by
  obtain ⟨V, h0, h11, h12, h1, hy⟩ : ∃ V : Conts F, V main_v14_0 = x0 ∧ V main_v11 = x11 ∧ V main_v12 = x12 ∧ V main_v14_1 = x1 ∧ V main_v15 = y := by
    refine ⟨Function.update (Function.update (Function.update (Function.update (Function.update anyConts
      main_v14_0 x0) main_v11 x11) main_v12 x12) main_v14_1 x1) main_v15 y, ?_, ?_, ?_, ?_, ?_⟩ <;>
      (repeat rw [Function.update_of_ne (by decide)]) <;> rw [Function.update_self]
  subst h0 h11 h12 h1 hy
  exact region2 d n b V Q

end Regions

variable (m : (ℓ : Loc nD τ sig) → Buf (Elt F) ℓ) (ρ : Dev nD → PrngReg)

/-! ## The launch element and what it deals -/

/-- What the launch owns: the handshakes' rounds, the pipelines' rounds, write mode's algebra, and no transfer yet. -/
def u₀ : UU F := (initOf (K (F := F)).hsCells (K (F := F)).hsToks,
  (initOf (Pipeline.cells (Pipeline.pin (pcfgs (F := F)) adm) cellOf_inj) (Pipeline.launchToks (Pipeline.pin (pcfgs (F := F)) adm) cellOf_inj),
    (wm₀ nD τ sig (Elt F), 1)))

/-- What each TensorCore is dealt: its three pipelines' ghost states and the write-mode invariant. -/
def G (d : Dev nD) : sProp 𝕄 :=
  iprop(regGhost (F := F) 0 d ∗ regGhost (F := F) 1 d ∗ regGhost (F := F) 2 d ∗ wmX (F := F))

theorem ghosts_eq (d : Dev nD) (Φ : Fin 3 → sProp 𝕄) : (bigSep Finset.univ fun p => Φ p) = iprop(Φ 0 ∗ Φ 1 ∗ Φ 2) :=
  bigSep_univ_eq_bigSepL [(0 : Fin 3), (1 : Fin 3), (2 : Fin 3)] (by decide) (by decide) Φ

theorem one_dev (Φ : Dev nD → sProp 𝕄) : (bigSep Finset.univ fun d => Φ d) = Φ 0 :=
  bigSep_univ_of_subsingleton (0 : Fin 1)

theorem ghosts_deal :
    iprop((bigSep Finset.univ fun c : Dev nD => bigSep Finset.univ fun p : Fin 3 => Pipeline.cellsGhost (Pipeline.pin (pcfgs (F := F)) adm) (EP (F := F)) p c)
      ∗ (bigSep Finset.univ fun c : Dev nD => bigSep Finset.univ fun p : Fin 3 => Pipeline.toksInit (Pipeline.pin (pcfgs (F := F)) adm) (EP (F := F)) p c)
      ∗ wmX (F := F)) ⊢ (bigSep Finset.univ fun d : Dev nD => G (F := F) d) := by
  rw [one_dev (G (F := F)), one_dev, one_dev, ghosts_eq 0, ghosts_eq 0]
  unfold G regGhost
  show iprop((_ ∗ _ ∗ _) ∗ (_ ∗ _ ∗ _) ∗ _) ⊢ iprop((_ ∗ _) ∗ (_ ∗ _) ∗ (_ ∗ _) ∗ _)
  iintro ⟨⟨Hg0, Hg1, Hg2⟩, ⟨Ht0, Ht1, Ht2⟩, Hw⟩
  isplitl [Hg0 Ht0]; · isplitl [Hg0] <;> iassumption
  isplitl [Hg1 Ht1]; · isplitl [Hg1] <;> iassumption
  isplitl [Hg2 Ht2]; · isplitl [Hg2] <;> iassumption
  iexact Hw

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, H⟩
  ihave H := (own_pair_emb (embR : Emb (UP × UW F) 𝕄) _ _) $$ H
  icases H with ⟨HP, H⟩
  ihave H := (own_pair_emb (((Emb.inr : Emb (UW F) (UP × UW F)).trans (embR : Emb (UP × UW F) 𝕄))) _ _) $$ H
  icases H with ⟨HW, -⟩
  imod (wmInv_alloc (emb := wmE (F := F)) (E := Set.univ) (Ix := HIx 1) (Name := ℕ) (Lvl := ℕ) ⟨m, fun _ => 0, fun _ => default⟩) $$ [HW] with ⟨%ιwm, -, #Hwm⟩
  · iapply (show (BI.own (((Emb.inl : Emb (WmRA nD τ sig (Elt F)) (UW F)).trans ((Emb.inr : Emb (UW F) (UP × UW F)).trans (embR : Emb (UP × UW F) 𝕄))) (wm₀ nD τ sig (Elt F))) : sProp 𝕄)
      ⊢ ownU (wmE (F := F) (wm₀ nD τ sig (Elt F))) from BI.Entails.refl _) $$ HW
  imod (Pipeline.fund_ghost (Pipeline.pin (pcfgs (F := F)) adm) (EP (F := F)) cellOf_inj) $$ [HP] with ⟨Hg, Ht⟩
  · iexact HP
  imodintro
  isplitl [HH]; · iexact HH
  isplitl [Hg Ht]
  · iapply ghosts_deal
    isplitl [Hg]; · iexact Hg
    isplitl [Ht]; · iexact Ht
    iexists ιwm; iexact Hwm
  rw [show (bigSep Finset.univ fun thr : Thread nD τ => bigSep Finset.univ fun q : Fin 1 => (P (F := F) m).x q thr)
      = bigSep Finset.univ fun _ : Thread nD τ => wmX (F := F) from bigSep_congr fun _ _ => bigSep_univ_of_subsingleton (0 : Fin 1)]
  iapply (bigSep_of_persistent (Finset.univ : Finset (Thread nD τ)) (wmX (F := F)))
  iexists ιwm; iexact Hwm

theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1)
      ∗ (tl d main_arg2 ↦{fullShare} W main_arg2) ∗ (tl d main_arg3 ↦{fullShare} W main_arg3) ∗ (tl d main_arg4 ↦{fullShare} W main_arg4)
      ∗ (tl d main_arg5 ↦{fullShare} W main_arg5) ∗ (tl d main_v0 ↦{fullShare} W main_v0) ∗ (tl d main_v1 ↦{fullShare} W main_v1)
      ∗ (tl d main_c ↦{fullShare} W main_c) ∗ (tl d main_v2 ↦{fullShare} W main_v2) ∗ (tl d main_v3 ↦{fullShare} W main_v3)
      ∗ (tl d main_c_0 ↦{fullShare} W main_c_0) ∗ (tl d main_v4 ↦{fullShare} W main_v4) ∗ (tl d main_v5 ↦{fullShare} W main_v5)
      ∗ (tl d main_v6 ↦{fullShare} W main_v6) ∗ (tl d main_v7 ↦{fullShare} W main_v7) ∗ (tl d main_v8 ↦{fullShare} W main_v8)
      ∗ (tl d main_v9 ↦{fullShare} W main_v9) ∗ (tl d main_v10 ↦{fullShare} W main_v10) ∗ (tl d main_v11 ↦{fullShare} W main_v11)
      ∗ (tl d main_v12 ↦{fullShare} W main_v12) ∗ (tl d main_v13 ↦{fullShare} W main_v13) ∗ (tl d main_v14_0 ↦{fullShare} W main_v14_0)
      ∗ (tl d main_v14_1 ↦{fullShare} W main_v14_1) ∗ (tl d main_v15 ↦{fullShare} W main_v15) ∗ (tl d main_v16 ↦{fullShare} W main_v16)) := by
  unfold unscopedBufs
  exact bigSep_eq_bigSepL_of_eq [main_arg0, main_arg1, main_arg2, main_arg3, main_arg4, main_arg5, main_v0, main_v1,
      main_c, main_v2, main_v3, main_c_0, main_v4, main_v5, main_v6, main_v7, main_v8, main_v9, main_v10, main_v11, main_v12, main_v13, main_v14_0, main_v14_1,
      main_v15, main_v16] (by decide) (by decide) _

end Cert.Proof

end
-- ==== Proof.Main.lean ====
/-
  @main on the TensorCore: from the launch memory, through the three TensorCore kernels and the SparseCore call, to
  the result; and the run of the whole program that follows.
-/
module

public import proofs.«01_k».proof.Proof.Launch

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

variable (m : (ℓ : Loc nD τ sig) → Buf (Elt F) ℓ) (ρ : Dev nD → PrngReg)

/-! ## The values of @main's arrays -/

section Values

variable (d : Dev nD)

/-- Which half of the repacked row holds a word's embedding, as a column of numbers. -/
def V10 : S1024x1.Idx → Elt F .f32 :=
  shapeCast S1024x1 (uitofp .f32 (V3 m d : (⟨S1024, .i1⟩ : BufTy).Contents (Elt F)) : (⟨S1024, .f32⟩ : BufTy).Contents (Elt F)) shapeCasts_S1024_S1024x1
/-- The second layer's weights, one row per word. -/
def V11 : S100000x128.Idx → Elt F .f32 :=
  transpose S100000x128 [1, 0] (m (tl d main_arg4) : (⟨S128x100000, .f32⟩ : BufTy).Contents (Elt F)) transposes_S128x100000_S100000x128_1_0
/-- Its biases, block by block. -/
def V12 : S25x1x4000.Idx → Elt F .f32 :=
  shapeCast S25x1x4000 (m (tl d main_arg5) : (⟨S100000, .f32⟩ : BufTy).Contents (Elt F)) shapeCasts_S100000_S25x1x4000
/-- The first layer's biases, as a column. -/
def V13 : S128x1.Idx → Elt F .f32 :=
  shapeCast S128x1 (m (tl d main_arg3) : (⟨S128, .f32⟩ : BufTy).Contents (Elt F)) shapeCasts_S128_S128x1

/-- The hidden layer, from the gathered rows. -/
def HID (V8 : Buf (Elt F) (tl d main_v8)) : S128x1024.Idx → Elt F .bf16 := k2_pay1 V8 (V10 m d) (m (tl d main_arg2)) (V13 m d)
/-- The logarithms of the totals. -/
def LSE (V8 : Buf (Elt F) (tl d main_v8)) : S1x1024.Idx → Elt F .f32 := lseOf (F := F) (V11 m d) (V12 m d) (HID m d V8)
/-- The result, from the gathered rows. -/
def OUT (V8 : Buf (Elt F) (tl d main_v8)) : Buf (Elt F) (tl d main_v16) :=
  transpose S1024x100000 [1, 0] (outT (F := F) (V11 m d) (HID m d V8) (V12 m d) (LSE m d V8) : (⟨S100000x1024, .f32⟩ : BufTy).Contents (Elt F))
    transposes_S100000x1024_S1024x100000_1_0

end Values

/-! ## @main -/

/-- What @main ends with: its arguments as they were, and the result of some gathered rows that meet their targets. -/
def FIN (d : Dev nD) : sProp 𝕄 :=
  iprop((tl d main_arg0 ↦{fullShare} m (tl d main_arg0)) ∗ (tl d main_arg1 ↦{fullShare} m (tl d main_arg1))
    ∗ (tl d main_arg2 ↦{fullShare} m (tl d main_arg2)) ∗ (tl d main_arg3 ↦{fullShare} m (tl d main_arg3))
    ∗ (tl d main_arg4 ↦{fullShare} m (tl d main_arg4)) ∗ (tl d main_arg5 ↦{fullShare} m (tl d main_arg5))
    ∗ ∃ V8, ⌜Meets V8 (T8 m d)⌝ ∗ (tl d main_v16 ↦{fullShare} OUT m d V8))

theorem st0_eq (d : Dev nD) : (bigSep Finset.univ fun c : Fin ((K (F := F)).nCore 0) => (P m).st 0 d c)
    = (bigSep Finset.univ fun c : Fin 2 => bigSep Finset.univ fun i : Fin 16 => goP m d c.val i.val : sProp 𝕄) := rfl
theorem dn0_eq (d : Dev nD) : (bigSep Finset.univ fun c : Fin ((K (F := F)).nCore 0) => (P m).dn 0 d c)
    = (bigSep Finset.univ fun c : Fin 2 => bigSep Finset.univ fun i : Fin 16 => tdP m d c.val i.val : sProp 𝕄) := rfl

/-- What the TensorCore's state holds beside its debts before call `n`. -/
theorem tcSt_split (d : Dev nD) (n : ℕ) : ∃ (b : ℕ) (R : sProp 𝕄), (K (F := F)).tcSt EH d n = iprop(tcOw (F := F) d n b ∗ R) := ⟨_, _, rfl⟩

set_option maxHeartbeats 1600000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b0, R0, e0⟩ := tcSt_split (F := F) d 0
  obtain ⟨b1, R1, e1⟩ := tcSt_split (F := F) d ((0 : Fin 1).val + 1)
  have e1' : (K (F := F)).tcSt EH d 1 = iprop(tcOw (F := F) d ((0 : Fin 1).val + 1) b1 ∗ R1) := e1
  unfold SparseCore.Cfg.tcRes SparseCore.Cfg.tcEnd G
  rw [unscopedBufs_eq]
  simp only [main, fn_where.body, wp_bind, wp_pure]
  iintro ⟨#Hctx, Hst, ⟨Hb, ⟨Ha0, Ha1, Ha2, Ha3, Ha4, Ha5, Hv0, Hv1, Hc, Hv2, Hv3, Hc0, Hv4, Hv5, Hv6, Hv7, Hv8, Hv9, Hv10, Hv11, Hv12, Hv13, Hv140, Hv141, Hv15, Hv16⟩, Hts, -⟩, ⟨Hg0, Hg1, Hg2, #Hwm⟩⟩
  ihave #Hl := (SparseCore.Cfg.ctx_levAts κ) $$ Hctx
  ihave Hst := (Entails.of_eq e0) $$ Hst
  icases Hst with ⟨HO, HR⟩
  iapply (step_unary d main_arg1 main_v0 _ _ _ _ _ (by decide) (V0 m d) rfl _)
  isplitl [Hb]; · iexact Hb
  isplitl [Ha1]; · iexact Ha1
  isplitl [Hv0]; · iexact Hv0
  iintro ⟨Hb, Ha1, Hv0⟩
  iapply (region0_at d 0 b0 _ _ _)
  isplitr; · iexact Hl
  isplitl [Hb]; · iexact Hb
  isplitl [HO]; · iexact HO
  isplitl [Hg0]; · iexact Hg0
  isplitl [Hv0]; · iexact Hv0
  isplitl [Hv1]; · iexact Hv1
  iintro ⟨Hb, HO, ⟨%V1, %hV1, Hv1⟩⟩
  iapply (step_nullary d main_c _ _ _ _)
  isplitl [Hb]; · iexact Hb
  isplitl [Hc]; · iexact Hc
  iintro ⟨Hb, Hc⟩
  iapply (step_unary d main_c main_v2 _ _ _ _ _ (by decide) (Vb (F := F)) rfl _)
  isplitl [Hb]; · iexact Hb
  isplitl [Hc]; · iexact Hc
  isplitl [Hv2]; · iexact Hv2
  iintro ⟨Hb, Hc, Hv2⟩
  iapply (step_binary d main_arg0 main_v2 main_v3 _ _ _ _ _ _ _ (by decide) (by decide) (by decide) (V3 m d) rfl _)
  isplitl [Hb]; · iexact Hb
  isplitl [Ha0]; · iexact Ha0
  isplitl [Hv2]; · iexact Hv2
  isplitl [Hv3]; · iexact Hv3
  iintro ⟨Hb, Ha0, Hv2, Hv3⟩
  iapply (step_nullary d main_c_0 _ _ _ _)
  isplitl [Hb]; · iexact Hb
  isplitl [Hc0]; · iexact Hc0
  iintro ⟨Hb, Hc0⟩
  iapply (step_unary d main_c_0 main_v4 _ _ _ _ _ (by decide) (Vb (F := F)) rfl _)
  isplitl [Hb]; · iexact Hb
  isplitl [Hc0]; · iexact Hc0
  isplitl [Hv4]; · iexact Hv4
  iintro ⟨Hb, Hc0, Hv4⟩
  iapply (step_binary d main_arg0 main_v4 main_v5 _ _ _ _ _ _ _ (by decide) (by decide) (by decide) (subi (m (tl d main_arg0) : (⟨S1024, .i32⟩ : BufTy).Contents (Elt F)) (Vb (F := F))) rfl _)
  isplitl [Hb]; · iexact Hb
  isplitl [Ha0]; · iexact Ha0
  isplitl [Hv4]; · iexact Hv4
  isplitl [Hv5]; · iexact Hv5
  iintro ⟨Hb, Ha0, Hv4, Hv5⟩
  iapply (step_ternary d main_v3 main_v5 main_arg0 main_v6 _ _ _ _ _ _ _ _ _ (by decide) (by decide) (by decide) (by decide) (by decide) (by decide)
    (select (V3 m d) (subi (m (tl d main_arg0) : (⟨S1024, .i32⟩ : BufTy).Contents (Elt F)) (Vb (F := F))) (m (tl d main_arg0))) rfl _)
  isplitl [Hb]; · iexact Hb
  isplitl [Hv3]; · iexact Hv3
  isplitl [Hv5]; · iexact Hv5
  isplitl [Ha0]; · iexact Ha0
  isplitl [Hv6]; · iexact Hv6
  iintro ⟨Hb, Hv3, -, Ha0, Hv6⟩
  imodintro
  iapply (step_reshape d main_v6 main_v7 _ _ _ _ _ _ (by decide) (V7 m d) rfl _)
  isplitl [Hb]; · iexact Hb
  isplitl [Hv6]; · iexact Hv6
  isplitl [Hv7]; · iexact Hv7
  iintro ⟨Hb, Hv6, Hv7⟩
  imod (deal m d V1 hV1) $$ [Hv1 Hv7 Hv8] with Hgo
  · isplitr; · iexact Hwm
    isplitl [Hv1]; · iexact Hv1
    isplitl [Hv7]; · iexact Hv7
    iexact Hv8
  iapply ((K (F := F)).wp_run (D (F := F)) 𝒱 (EH := EH) (P := P m) κ d 0)
  isplitr; · iexact Hctx
  isplitl [HO HR]
  · iapply (Entails.of_eq e0.symm)
    isplitl [HO] <;> iassumption
  isplitl [Hgo]
  · iapply (Entails.of_eq (st0_eq m d).symm) $$ Hgo
  iintro ⟨Hst, Hdn⟩
  ihave Hdn := (Entails.of_eq (dn0_eq m d)) $$ Hdn
  ihave Hst := (Entails.of_eq e1) $$ Hst
  icases Hst with ⟨HO, HR⟩
  imod (regain m d) $$ [Hdn] with ⟨%V8, %hV8, Hv8⟩
  · isplitr; · iexact Hwm
    iexact Hdn
  iapply (step_unary d main_v3 main_v9 _ _ _ _ _ (by decide) (uitofp .f32 (V3 m d : (⟨S1024, .i1⟩ : BufTy).Contents (Elt F))) rfl _)
  isplitl [Hb]; · iexact Hb
  isplitl [Hv3]; · iexact Hv3
  isplitl [Hv9]; · iexact Hv9
  iintro ⟨Hb, Hv3, Hv9⟩
  iapply (step_reshape d main_v9 main_v10 _ _ _ _ _ _ (by decide) (V10 m d) rfl _)
  isplitl [Hb]; · iexact Hb
  isplitl [Hv9]; · iexact Hv9
  isplitl [Hv10]; · iexact Hv10
  iintro ⟨Hb, Hv9, Hv10⟩
  iapply (step_unary d main_arg4 main_v11 _ _ _ _ _ (by decide) (V11 m d) rfl _)
  isplitl [Hb]; · iexact Hb
  isplitl [Ha4]; · iexact Ha4
  isplitl [Hv11]; · iexact Hv11
  iintro ⟨Hb, Ha4, Hv11⟩
  iapply (step_reshape d main_arg5 main_v12 _ _ _ _ _ _ (by decide) (V12 m d) rfl _)
  isplitl [Hb]; · iexact Hb
  isplitl [Ha5]; · iexact Ha5
  isplitl [Hv12]; · iexact Hv12
  iintro ⟨Hb, Ha5, Hv12⟩
  iapply (step_reshape d main_arg3 main_v13 _ _ _ _ _ _ (by decide) (V13 m d) rfl _)
  isplitl [Hb]; · iexact Hb
  isplitl [Ha3]; · iexact Ha3
  isplitl [Hv13]; · iexact Hv13
  iintro ⟨Hb, Ha3, Hv13⟩
  iapply (region1_at d ((0 : Fin 1).val + 1) b1 V8 (V10 m d) (m (tl d main_arg2)) (V13 m d) (V11 m d) (V12 m d) _ _ _)
  isplitr; · iexact Hl
  isplitl [Hb]; · iexact Hb
  isplitl [HO]; · iexact HO
  isplitl [Hg1]; · iexact Hg1
  isplitl [Hv8 Hv10 Ha2 Hv13 Hv11 Hv12 Hv140 Hv141]
  · isplitl [Hv8]; · iexact Hv8
    isplitl [Hv10]; · iexact Hv10
    isplitl [Ha2]; · iexact Ha2
    isplitl [Hv13]; · iexact Hv13
    isplitl [Hv11]; · iexact Hv11
    isplitl [Hv12]; · iexact Hv12
    isplitl [Hv140]; · iexact Hv140
    iexact Hv141
  iintro ⟨Hb, HO, Ha2, Hv11, Hv12, Hv140, Hv141⟩
  iapply (region2_at d ((0 : Fin 1).val + 1) b1 (HID m d V8) (V11 m d) (V12 m d) (LSE m d V8) _ _)
  isplitr; · iexact Hl
  isplitl [Hb]; · iexact Hb
  isplitl [HO]; · iexact HO
  isplitl [Hg2]; · iexact Hg2
  isplitl [Hv140 Hv11 Hv12 Hv141 Hv15]
  · isplitl [Hv140]; · iapply (show (tl d main_v14_0 ↦{fullShare} (k2_pay1 V8 (V10 m d) (m (tl d main_arg2)) (V13 m d) : S128x1024.Idx → Elt F .bf16) : sProp 𝕄) ⊢ (tl d main_v14_0 ↦{fullShare} HID m d V8) from BI.Entails.refl _) $$ Hv140
    isplitl [Hv11]; · iexact Hv11
    isplitl [Hv12]; · iexact Hv12
    isplitl [Hv141]; · iapply (show (tl d main_v14_1 ↦{fullShare} lseOf (F := F) (V11 m d) (V12 m d) (k2_pay1 V8 (V10 m d) (m (tl d main_arg2)) (V13 m d)) : sProp 𝕄) ⊢ (tl d main_v14_1 ↦{fullShare} LSE m d V8) from BI.Entails.refl _) $$ Hv141
    iexact Hv15
  iintro ⟨Hb, HO, Hv15⟩
  iapply (step_unary d main_v15 main_v16 _ _ _ _ _ (by decide) (OUT m d V8) rfl _)
  isplitl [Hb]; · iexact Hb
  isplitl [Hv15]; · iexact Hv15
  isplitl [Hv16]; · iexact Hv16
  iintro ⟨Hb, Hv15, Hv16⟩
  imodintro
  isplitl [HO HR]
  · iapply (Entails.of_eq e1'.symm)
    isplitl [HO] <;> iassumption
  isplitr [Hb Hts]
  · unfold FIN
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexists V8
    isplitr
    · ipureintro; exact hV8
    iexact Hv16
  isplitl [Hb] <;> iassumption

/-! ## The end of the run -/

/-- What the memory holds at the end, on device `d`. -/
def fq (d : Dev nD) (s' : Phys nD τ sig (Elt F)) : Prop :=
  s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3)
    ∧ s'.mem.mem (tl d main_arg4) = m (tl d main_arg4) ∧ s'.mem.mem (tl d main_arg5) = m (tl d main_arg5)
    ∧ ∃ V8, Meets V8 (T8 m d) ∧ s'.mem.mem (tl d main_v16) = OUT m d V8

/-- A buffer held whole is what the memory holds there. -/
theorem agree (d : Dev nD) (b : Ref sig .tc) (f : Buf (Elt F) (tl d b)) (s' : Phys nD τ sig (Elt F)) :
    iprop(SI s' ∗ (tl d b ↦{fullShare} f)) ⊢ (iprop(⌜s'.mem.mem (tl d b) = f⌝ ∗ SI s') : sProp 𝕄) := by
  iintro H
  ihave H := (persistent_entails_right (SI_pointsTo_agree (st := s') (ℓ := tl d b) (I := Finset.univ) (q := fullShare) (f := f))) $$ H
  icases H with ⟨%h1, HSI, -⟩
  isplitr
  · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  unfold FIN
  iintro ⟨⟨Ha0, Ha1, Ha2, Ha3, Ha4, Ha5, ⟨%V8, %hV8, Hv⟩⟩, HSI⟩
  ihave H := (agree d main_arg0 (m (tl d main_arg0)) s') $$ [HSI Ha0]
  · isplitl [HSI] <;> iassumption
  icases H with ⟨%h0, HSI⟩
  ihave H := (agree d main_arg1 (m (tl d main_arg1)) s') $$ [HSI Ha1]
  · isplitl [HSI] <;> iassumption
  icases H with ⟨%h1, HSI⟩
  ihave H := (agree d main_arg2 (m (tl d main_arg2)) s') $$ [HSI Ha2]
  · isplitl [HSI] <;> iassumption
  icases H with ⟨%h2, HSI⟩
  ihave H := (agree d main_arg3 (m (tl d main_arg3)) s') $$ [HSI Ha3]
  · isplitl [HSI] <;> iassumption
  icases H with ⟨%h3, HSI⟩
  ihave H := (agree d main_arg4 (m (tl d main_arg4)) s') $$ [HSI Ha4]
  · isplitl [HSI] <;> iassumption
  icases H with ⟨%h4, HSI⟩
  ihave H := (agree d main_arg5 (m (tl d main_arg5)) s') $$ [HSI Ha5]
  · isplitl [HSI] <;> iassumption
  icases H with ⟨%h5, HSI⟩
  ihave H := (agree d main_v16 (OUT m d V8) s') $$ [HSI Hv]
  · isplitl [HSI] <;> iassumption
  icases H with ⟨%h6, -⟩
  ipureintro
  exact ⟨h0, h1, h2, h3, h4, h5, V8, hV8, h6⟩

/-- The end of a run: the arguments as they were, the result of some gathered rows that meet their targets, and no
    semaphore left raised. -/
def QC : PUnit × MemSt nD τ sig (Elt F) → Prop := fun r =>
  (∀ d : Dev nD, r.2.mem (tl d main_arg0) = m (tl d main_arg0) ∧ r.2.mem (tl d main_arg1) = m (tl d main_arg1)
    ∧ r.2.mem (tl d main_arg2) = m (tl d main_arg2) ∧ r.2.mem (tl d main_arg3) = m (tl d main_arg3)
    ∧ r.2.mem (tl d main_arg4) = m (tl d main_arg4) ∧ r.2.mem (tl d main_arg5) = m (tl d main_arg5)
    ∧ ∃ V8, Meets V8 (T8 m d) ∧ r.2.mem (tl d main_v16) = OUT m d V8)
  ∧ r.2.sem = fun _ => 0

theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof

end
-- ==== Proof.Reference.lean ====
/-
  The reference's run: a row lookup, two dense layers and a log-softmax, forty-nine host steps in three lists. Each list's result
  is stated as a value of what it reads (`takeV`, `scoreV`, `lsmV`), and the run ends with the result buffer at their
  composition and the arguments as they were.
-/
module

public import proofs.«01_k».proof.ReferenceIdeal
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The twenty-three steps of the row lookup. -/
abbrev takeOps : List (HloOp τ sig (Elt F)) :=
  [ TRef.nullary main_call0.c (constantI S_ 32 0#32),
    TRef.unary main_call0.c main_call0.v0 (broadcastInDim S1024 ![] bcast_S_S1024),
    TRef.binary (.of main_arg0 : TRef sig ⟨S1024, .i32⟩) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0 : TRef sig ⟨S1024, .i32⟩) main_call0.v2 main_call0.v3 addi,
    TRef.ternary main_call0.v1 main_call0.v3 (.of main_arg0 : TRef sig ⟨S1024, .i32⟩) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1 : TRef sig ⟨S100000x64, .f32⟩) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select ]

/-- The two layers: the hidden row with its cut at zero, then the scores. -/
abbrev midOps : List (HloOp τ sig (Elt F)) :=
  [ binary main_v0 main_arg2 main_v1 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S1024x128 ![0, 1] bcast_S1x128_S1024x128_0_1 : (⟨S1x128, .f32⟩ : BufTy).Contents (Elt F) → (⟨S1024x128, .f32⟩ : BufTy).Contents (Elt F)),
    binary main_v1 main_v3 main_v4 (addf : (⟨S1024x128, .f32⟩ : BufTy).Contents (Elt F) → (⟨S1024x128, .f32⟩ : BufTy).Contents (Elt F) → (⟨S1024x128, .f32⟩ : BufTy).Contents (Elt F)),
    TRef.nullary main_call1.cst (constant S_ .f32 0x00000000#32),
    TRef.unary main_call1.cst main_call1.v0 (broadcastInDim S1024x128 ![] bcast_S_S1024x128),
    TRef.binary (.of main_v4 : TRef sig ⟨S1024x128, .f32⟩) main_call1.v0 main_call1.v1 maximumf,
    binary main_v5 main_arg4 main_v6 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    unary main_arg5 main_v7 (broadcastInDim S1x100000 ![1] bcast_S100000_S1x100000_1 : (⟨S100000, .f32⟩ : BufTy).Contents (Elt F) → (⟨S1x100000, .f32⟩ : BufTy).Contents (Elt F)),
    unary main_v7 main_v8 (broadcastInDim S1024x100000 ![0, 1] bcast_S1x100000_S1024x100000_0_1 : (⟨S1x100000, .f32⟩ : BufTy).Contents (Elt F) → (⟨S1024x100000, .f32⟩ : BufTy).Contents (Elt F)),
    binary main_v6 main_v8 main_v9 (addf : (⟨S1024x100000, .f32⟩ : BufTy).Contents (Elt F) → (⟨S1024x100000, .f32⟩ : BufTy).Contents (Elt F) → (⟨S1024x100000, .f32⟩ : BufTy).Contents (Elt F)) ]

/-- The steps of the log-softmax over a row of scores. -/
abbrev lsmOps : List (HloOp τ sig (Elt F)) :=
  [ TRef.nullary main_call2.cst (constant S_ .f32 0xFF800000#32),
    TRef.binary (.of main_v9 : TRef sig ⟨S1024x100000, .f32⟩) main_call2.cst main_call2.v0 (fun x v => Host.reduce FloatOps.maximumf x v reducesTo_S1024x100000_S1024_d1 h_S_),
    TRef.nullary main_call2.cst_0 (constant S_ .f32 0xFF800000#32),
    TRef.unary main_call2.cst_0 main_call2.v1 (broadcastInDim S1024 ![] bcast_S_S1024),
    TRef.binary main_call2.v1 main_call2.v0 main_call2.v2 maximumf,
    TRef.unary main_call2.v2 main_call2.v3 (broadcastInDim S1024x1 ![0] bcast_S1024_S1024x1_0),
    TRef.unary main_call2.v3 main_call2.v4 (broadcastInDim S1024x100000 ![0, 1] bcast_S1024x1_S1024x100000_0_1),
    TRef.binary (.of main_v9 : TRef sig ⟨S1024x100000, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S1024x100000_S1024_d1 h_S_),
    TRef.unary main_call2.v7 main_call2.v8 (broadcastInDim S1024x1 ![0] bcast_S1024_S1024x1_0),
    TRef.unary main_call2.v8 main_call2.v9 Host.log,
    TRef.unary main_call2.v9 main_call2.v10 (broadcastInDim S1024x100000 ![0, 1] bcast_S1024x1_S1024x100000_0_1),
    TRef.binary main_call2.v5 main_call2.v10 main_call2.v11 subf ]

theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem midOps_sub : (midOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem lsmOps_sub : (lsmOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

abbrev refOps : List (HloOp τ sig (Elt F)) := takeOps ++ (midOps ++ lsmOps)

theorem main_eq (c : Dev nD) : main (F := F) c = seq refOps := rfl

theorem scopedRefs_eq : (Finset.univ.filter fun b : Ref sig .tc => b.isScoped) = ∅ := by decide
theorem scopedSems_eq : (Finset.univ.filter fun sm : SemLoc sig => sm.isScoped .tc) = ∅ := by decide

theorem refOps_sub : (refOps : List (HloOp τ sig (Elt F))).Forall fun op => op.bufs ⊆ tcRefs τ sig := by
  rw [List.forall_iff_forall_mem]
  intro op h
  rcases List.mem_append.1 h with h | h
  · exact (List.forall_iff_forall_mem.1 takeOps_sub) op h
  rcases List.mem_append.1 h with h | h
  · exact (List.forall_iff_forall_mem.1 midOps_sub) op h
  · exact (List.forall_iff_forall_mem.1 lsmOps_sub) op h

theorem take_fresh : ∀ op ∈ (takeOps : List (HloOp τ sig (Elt F))), op.fresh = ∅ := by
  intro _ h; (repeat (cases h with | head => rfl | tail _ h => ?_)); exact nomatch h
theorem mid_fresh : ∀ op ∈ (midOps : List (HloOp τ sig (Elt F))), op.fresh = ∅ := by
  intro _ h; (repeat (cases h with | head => rfl | tail _ h => ?_)); exact nomatch h
theorem lsm_fresh : ∀ op ∈ (lsmOps : List (HloOp τ sig (Elt F))), op.fresh = ∅ := by
  intro _ h; (repeat (cases h with | head => rfl | tail _ h => ?_)); exact nomatch h

theorem ref_fresh (op : HloOp τ sig (Elt F)) (h : op ∈ (refOps : List (HloOp τ sig (Elt F)))) : op.fresh = ∅ := by
  rcases List.mem_append.1 h with h | h
  · exact take_fresh op h
  rcases List.mem_append.1 h with h | h
  · exact mid_fresh op h
  · exact lsm_fresh op h

/-- Two lists of steps one after the other. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-! ## The three values -/

/-- A row number as the lookup uses it: a negative one counts from the end. -/
def wrapV (a0 : S1024.Idx → BitVec 32) : S1024.Idx → BitVec 32 :=
  select (cmpi .slt a0 (broadcastInDim S1024 ![] bcast_S_S1024 (constantI S_ 32 0#32)))
    (addi a0 (broadcastInDim S1024 ![] bcast_S_S1024 (constantI S_ 32 100000#32))) a0

/-- The row numbers as a column. -/
def colV (a0 : S1024.Idx → BitVec 32) : S1024x1.Idx → BitVec 32 := broadcastInDim S1024x1 ![0] bcast_S1024_S1024x1_0 (wrapV a0)

/-- Which row numbers lie inside the table. -/
def insideV (a0 : S1024.Idx → BitVec 32) : S1024.Idx → BitVec 1 :=
  Host.reduce IntOp.andi
    (andi (cmpi .sge (colV a0) (broadcastInDim S1024x1 ![] bcast_S_S1024x1 (constantI S_ 32 0#32)))
      (cmpi .sle (colV a0) (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The rows looked up. -/
def takeV (a1 : S100000x64.Idx → F .f32) (a0 : S1024.Idx → BitVec 32) : S1024x64.Idx → F .f32 :=
  select (broadcastInDim S1024x64 ![0] bcast_S1024_S1024x64_0 (insideV a0))
    (Host.gather gather_S100000x64_S1024x1_S1024x64_1_0_n_n_0_1_164 a1 (colV a0))
    (broadcastInDim S1024x64 ![] bcast_S_S1024x64 (constant S_ .f32 0x7FC00000#32))

/-- The hidden layer. -/
def hiddenV (x : S1024x64.Idx → F .f32) (a2 : S64x128.Idx → F .f32) (a3 : S128.Idx → F .f32) : S1024x128.Idx → F .f32 :=
  maximumf (addf (Host.dotGeneral dot_S1024x64_S64x128_S1024x128_1_0_0_1_n_n none x a2)
      (broadcastInDim S1024x128 ![0, 1] bcast_S1x128_S1024x128_0_1 (broadcastInDim S1x128 ![1] bcast_S128_S1x128_1 a3)))
    (broadcastInDim S1024x128 ![] bcast_S_S1024x128 (constant S_ .f32 0x00000000#32))

/-- The scores. -/
def scoreV (h : S1024x128.Idx → F .f32) (a4 : S128x100000.Idx → F .f32) (a5 : S100000.Idx → F .f32) : S1024x100000.Idx → F .f32 :=
  addf (Host.dotGeneral dot_S1024x128_S128x100000_S1024x100000_1_0_0_1_n_n none h a4)
    (broadcastInDim S1024x100000 ![0, 1] bcast_S1x100000_S1024x100000_0_1 (broadcastInDim S1x100000 ![1] bcast_S100000_S1x100000_1 a5))

/-- The scores less their row's largest. -/
def shiftV (x : S1024x100000.Idx → F .f32) : S1024x100000.Idx → F .f32 :=
  subf x (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32))
      (Host.reduce FloatOps.maximumf x (constant S_ .f32 0xFF800000#32) reducesTo_S1024x100000_S1024_d1 h_S_))))

/-- The log-softmax of each row of scores. -/
def lsmV (x : S1024x100000.Idx → F .f32) : S1024x100000.Idx → F .f32 :=
  subf (shiftV x) (broadcastInDim S1024x100000 ![0, 1] bcast_S1024x1_S1024x100000_0_1 (Host.log
    (broadcastInDim S1024x1 ![0] bcast_S1024_S1024x1_0
      (Host.reduceAdd (Host.exp (shiftV x)) (constant S_ .f32 0x00000000#32) reducesTo_S1024x100000_S1024_d1 h_S_))))

theorem take_at (V : Valuation τ sig (Elt F)) :
    after takeOps V (main_v0 : DevRef τ sig) = takeV (V (main_arg1 : DevRef τ sig)) (V (main_arg0 : DevRef τ sig)) := by
  after_results_simp
  simp only [TRef.ofBuf_toBuf]
  rfl

theorem mid_at (V : Valuation τ sig (Elt F)) :
    after midOps V (main_v9 : DevRef τ sig)
      = scoreV (hiddenV (V (main_v0 : DevRef τ sig)) (V (main_arg2 : DevRef τ sig)) (V (main_arg3 : DevRef τ sig)))
          (V (main_arg4 : DevRef τ sig)) (V (main_arg5 : DevRef τ sig)) := by
  after_results_simp
  simp only [TRef.ofBuf_toBuf]
  rfl

theorem lsm_at (V : Valuation τ sig (Elt F)) :
    after lsmOps V (main_v10 : DevRef τ sig) = lsmV (V (main_v9 : DevRef τ sig)) := by
  after_results_simp
  simp only [TRef.ofBuf_toBuf]
  unfold lsmV shiftV
  rfl

theorem take_arg0 (V : Valuation τ sig (Elt F)) : after takeOps V (main_arg0 : DevRef τ sig) = V (main_arg0 : DevRef τ sig) := by
  after_results_simp

theorem take_arg1 (V : Valuation τ sig (Elt F)) : after takeOps V (main_arg1 : DevRef τ sig) = V (main_arg1 : DevRef τ sig) := by
  after_results_simp

theorem take_arg2 (V : Valuation τ sig (Elt F)) : after takeOps V (main_arg2 : DevRef τ sig) = V (main_arg2 : DevRef τ sig) := by
  after_results_simp

theorem take_arg3 (V : Valuation τ sig (Elt F)) : after takeOps V (main_arg3 : DevRef τ sig) = V (main_arg3 : DevRef τ sig) := by
  after_results_simp

theorem take_arg4 (V : Valuation τ sig (Elt F)) : after takeOps V (main_arg4 : DevRef τ sig) = V (main_arg4 : DevRef τ sig) := by
  after_results_simp

theorem take_arg5 (V : Valuation τ sig (Elt F)) : after takeOps V (main_arg5 : DevRef τ sig) = V (main_arg5 : DevRef τ sig) := by
  after_results_simp

theorem mid_arg0 (V : Valuation τ sig (Elt F)) : after midOps V (main_arg0 : DevRef τ sig) = V (main_arg0 : DevRef τ sig) := by
  after_results_simp

theorem mid_arg1 (V : Valuation τ sig (Elt F)) : after midOps V (main_arg1 : DevRef τ sig) = V (main_arg1 : DevRef τ sig) := by
  after_results_simp

theorem mid_arg2 (V : Valuation τ sig (Elt F)) : after midOps V (main_arg2 : DevRef τ sig) = V (main_arg2 : DevRef τ sig) := by
  after_results_simp

theorem mid_arg3 (V : Valuation τ sig (Elt F)) : after midOps V (main_arg3 : DevRef τ sig) = V (main_arg3 : DevRef τ sig) := by
  after_results_simp

theorem mid_arg4 (V : Valuation τ sig (Elt F)) : after midOps V (main_arg4 : DevRef τ sig) = V (main_arg4 : DevRef τ sig) := by
  after_results_simp

theorem mid_arg5 (V : Valuation τ sig (Elt F)) : after midOps V (main_arg5 : DevRef τ sig) = V (main_arg5 : DevRef τ sig) := by
  after_results_simp

theorem lsm_arg0 (V : Valuation τ sig (Elt F)) : after lsmOps V (main_arg0 : DevRef τ sig) = V (main_arg0 : DevRef τ sig) := by
  after_results_simp

theorem lsm_arg1 (V : Valuation τ sig (Elt F)) : after lsmOps V (main_arg1 : DevRef τ sig) = V (main_arg1 : DevRef τ sig) := by
  after_results_simp

theorem lsm_arg2 (V : Valuation τ sig (Elt F)) : after lsmOps V (main_arg2 : DevRef τ sig) = V (main_arg2 : DevRef τ sig) := by
  after_results_simp

theorem lsm_arg3 (V : Valuation τ sig (Elt F)) : after lsmOps V (main_arg3 : DevRef τ sig) = V (main_arg3 : DevRef τ sig) := by
  after_results_simp

theorem lsm_arg4 (V : Valuation τ sig (Elt F)) : after lsmOps V (main_arg4 : DevRef τ sig) = V (main_arg4 : DevRef τ sig) := by
  after_results_simp

theorem lsm_arg5 (V : Valuation τ sig (Elt F)) : after lsmOps V (main_arg5 : DevRef τ sig) = V (main_arg5 : DevRef τ sig) := by
  after_results_simp

/-- The reference's result, as a value of its arguments. -/
def resV (a0 : S1024.Idx → BitVec 32) (a1 : S100000x64.Idx → F .f32) (a2 : S64x128.Idx → F .f32) (a3 : S128.Idx → F .f32)
    (a4 : S128x100000.Idx → F .f32) (a5 : S100000.Idx → F .f32) : S1024x100000.Idx → F .f32 :=
  lsmV (scoreV (hiddenV (takeV a1 a0) a2 a3) a4 a5)

theorem ref_at (V : Valuation τ sig (Elt F)) :
    after refOps V (main_v10 : DevRef τ sig)
      = resV (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_two, after_two, lsm_at, mid_at, take_at, take_arg2, take_arg3, take_arg4, take_arg5]
  rfl

theorem ref_arg0 (V : Valuation τ sig (Elt F)) : after refOps V (main_arg0 : DevRef τ sig) = V (main_arg0 : DevRef τ sig) := by
  rw [after_two, after_two, lsm_arg0, mid_arg0, take_arg0]

theorem ref_arg1 (V : Valuation τ sig (Elt F)) : after refOps V (main_arg1 : DevRef τ sig) = V (main_arg1 : DevRef τ sig) := by
  rw [after_two, after_two, lsm_arg1, mid_arg1, take_arg1]

theorem ref_arg2 (V : Valuation τ sig (Elt F)) : after refOps V (main_arg2 : DevRef τ sig) = V (main_arg2 : DevRef τ sig) := by
  rw [after_two, after_two, lsm_arg2, mid_arg2, take_arg2]

theorem ref_arg3 (V : Valuation τ sig (Elt F)) : after refOps V (main_arg3 : DevRef τ sig) = V (main_arg3 : DevRef τ sig) := by
  rw [after_two, after_two, lsm_arg3, mid_arg3, take_arg3]

theorem ref_arg4 (V : Valuation τ sig (Elt F)) : after refOps V (main_arg4 : DevRef τ sig) = V (main_arg4 : DevRef τ sig) := by
  rw [after_two, after_two, lsm_arg4, mid_arg4, take_arg4]

theorem ref_arg5 (V : Valuation τ sig (Elt F)) : after refOps V (main_arg5 : DevRef τ sig) = V (main_arg5 : DevRef τ sig) := by
  rw [after_two, after_two, lsm_arg5, mid_arg5, take_arg5]

theorem run_ref (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (b : DevRef τ sig) :=
  run_seq scopedRefs_eq scopedSems_eq defs main (fun _ => refOps) main_eq (fun _ => refOps_sub) m ρ (fun _ => ref_fresh)

end Cert.Proof.Ref

end
-- ==== Proof.Same.lean ====
/-
  The kernel's table of bodies is the ideal kernel's: the two programs have one text, and the table is compared label by label.
-/
module

public import proofs.«01_k».proof.Proof.Main
public import proofs.«01_k».proof.Proof.Gen.Kernel

@[expose] public section

noncomputable section

namespace Cert.Proof

open Idealize.ShloMosaic Idealize.ShloMosaic.TcCoe Idealize.SL.Sem

theorem tile_same : (Cert.Kernel.cc1_kern (F := Bits)) = Cert.KernelIdeal.cc1_kern (F := Bits) := rfl

theorem label_tile (c s a) : Cert.Kernel.defs₀ (F := Bits) (.scVector c s) 1 a = Cert.KernelIdeal.defs₀ (F := Bits) (.scVector c s) 1 a := by
  simp only [Cert.Kernel.defs₀, Cert.KernelIdeal.defs₀]
  rw [tile_same]
  rfl

theorem label_tc0 (t s) : Cert.Kernel.defs₀ (F := Bits) .tc 0 (t, s) = Cert.KernelIdeal.defs₀ (F := Bits) .tc 0 (t, s) := rfl
theorem label_tc2 (t s) : Cert.Kernel.defs₀ (F := Bits) .tc 2 (t, s) = Cert.KernelIdeal.defs₀ (F := Bits) .tc 2 (t, s) := rfl
theorem label_tc3 (t s) : Cert.Kernel.defs₀ (F := Bits) .tc 3 (t, s) = Cert.KernelIdeal.defs₀ (F := Bits) .tc 3 (t, s) := rfl
theorem none_tc1 (a) : Cert.Kernel.defs₀ (F := Bits) .tc 1 a = Cert.KernelIdeal.defs₀ (F := Bits) .tc 1 a := by
  simp only [Cert.Kernel.defs₀, Cert.KernelIdeal.defs₀]
  congr 1
theorem none_v0 (c s a) : Cert.Kernel.defs₀ (F := Bits) (.scVector c s) 0 a = Cert.KernelIdeal.defs₀ (F := Bits) (.scVector c s) 0 a := by
  simp only [Cert.Kernel.defs₀, Cert.KernelIdeal.defs₀]
  congr 1
theorem none_v2 (c s a) : Cert.Kernel.defs₀ (F := Bits) (.scVector c s) 2 a = Cert.KernelIdeal.defs₀ (F := Bits) (.scVector c s) 2 a := by
  simp only [Cert.Kernel.defs₀, Cert.KernelIdeal.defs₀]
  congr 1
theorem none_v3 (c s a) : Cert.Kernel.defs₀ (F := Bits) (.scVector c s) 3 a = Cert.KernelIdeal.defs₀ (F := Bits) (.scVector c s) 3 a := by
  simp only [Cert.Kernel.defs₀, Cert.KernelIdeal.defs₀]
  congr 1
theorem none_s0 (c a) : Cert.Kernel.defs₀ (F := Bits) (.scScalar c) 0 a = Cert.KernelIdeal.defs₀ (F := Bits) (.scScalar c) 0 a := by
  simp only [Cert.Kernel.defs₀, Cert.KernelIdeal.defs₀]
  congr 1
theorem none_s1 (c a) : Cert.Kernel.defs₀ (F := Bits) (.scScalar c) 1 a = Cert.KernelIdeal.defs₀ (F := Bits) (.scScalar c) 1 a := by
  simp only [Cert.Kernel.defs₀, Cert.KernelIdeal.defs₀]
  congr 1
theorem none_s2 (c a) : Cert.Kernel.defs₀ (F := Bits) (.scScalar c) 2 a = Cert.KernelIdeal.defs₀ (F := Bits) (.scScalar c) 2 a := by
  simp only [Cert.Kernel.defs₀, Cert.KernelIdeal.defs₀]
  congr 1
theorem none_s3 (c a) : Cert.Kernel.defs₀ (F := Bits) (.scScalar c) 3 a = Cert.KernelIdeal.defs₀ (F := Bits) (.scScalar c) 3 a := by
  simp only [Cert.Kernel.defs₀, Cert.KernelIdeal.defs₀]
  congr 1

theorem same_tc (ℓ : Fin 4) : ∀ a, Cert.Kernel.defs₀ (F := Bits) .tc ℓ a = Cert.KernelIdeal.defs₀ (F := Bits) .tc ℓ a :=
  match ℓ with
  | 0 => fun a => label_tc0 a.1 a.2
  | 1 => none_tc1
  | 2 => fun a => label_tc2 a.1 a.2
  | 3 => fun a => label_tc3 a.1 a.2

theorem same_v (c s) (ℓ : Fin 4) :
    ∀ a, Cert.Kernel.defs₀ (F := Bits) (.scVector c s) ℓ a = Cert.KernelIdeal.defs₀ (F := Bits) (.scVector c s) ℓ a :=
  match ℓ with
  | 0 => none_v0 c s
  | 1 => label_tile c s
  | 2 => none_v2 c s
  | 3 => none_v3 c s

theorem same_s (c) (ℓ : Fin 4) :
    ∀ a, Cert.Kernel.defs₀ (F := Bits) (.scScalar c) ℓ a = Cert.KernelIdeal.defs₀ (F := Bits) (.scScalar c) ℓ a :=
  match ℓ with
  | 0 => none_s0 c
  | 1 => none_s1 c
  | 2 => none_s2 c
  | 3 => none_s3 c

theorem bodies_same : (Cert.Kernel.defs₀ (F := Bits)) = (Cert.KernelIdeal.defs₀ (F := Bits)) := by
  funext p ℓ a
  cases p with
  | tc => exact same_tc ℓ a
  | scVector c s => exact same_v c s ℓ a
  | scScalar c => exact same_s c ℓ a

theorem defs_same : (Cert.Kernel.defs (F := Bits)) = (Cert.KernelIdeal.defs (F := Bits)) := by
  unfold Cert.Kernel.defs Cert.KernelIdeal.defs
  rw [bodies_same]
  rfl

end Cert.Proof

end
-- ==== Proof.Frames.lean ====
/-
  What the precondition says of the row numbers, and the frames: the kernel's at its own floats and the ideal kernel's, both
  from the one run.
-/
module

public import proofs.«01_k».proof.Defs
public import proofs.«01_k».proof.Proof.Main
public import proofs.«01_k».proof.Proof.Reference
public import proofs.«01_k».proof.Proof.Same
public import proofs.«01_k».proof.Proof.Gen.Kernel
public import proofs.«01_k».proof.Proof.Gen.Pre_indices_in_vocab
public import Idealize.ShloMosaic.Lib.ReduceAll
public import Idealize.ShloMosaic.Lib.WordCmp

@[expose] public section

noncomputable section

namespace Cert.Proof

open Idealize.ShloMosaic Idealize.ShloMosaic.TcCoe Idealize.SL.Sem

/-- A word that is at least zero and below a hundred thousand, both as signed words, counts below a hundred thousand. -/
theorem word_inside (w : BitVec 32) (e : IntOp.andi (IntOp.cmpi .sge w 0#32) (IntOp.cmpi .slt w 100000#32) = 1#1) :
    w.toNat < 100000 := by
  rw [show (100000#32) = BitVec.ofNat 32 100000 from rfl, WordCmp.andi_sge_zero_slt_ofNat (by decide)] at e
  exact of_decide_eq_true ((WordCmp.ofBool_eq_one_iff _).1 e)

/-- The precondition, opened: every row number counts below the table's length. -/
theorem inside_of_pre {F : FTy → Type} [FloatOps F] (a0 : Cert.Pre_indices_in_vocab.S1024.Idx → BitVec 32) a1 a2 a3 a4 a5
    (h : Cert.Pre_indices_in_vocab.fn (F := F) a0 a1 a2 a3 a4 a5 = fun _ => 1#1) (j : Cert.Pre_indices_in_vocab.S1024.Idx) :
    (a0 j).toNat < 100000 :=
  haveI : Subsingleton Cert.Pre_indices_in_vocab.S_.Idx := ⟨fun a b => funext fun i => i.elim0⟩
  word_inside (a0 j) (Host.reduce_andi_all _ _ _ _ (fun i => i.elim0) (congrFun h (fun i => i.elim0)) j)

theorem ok_ideal (m : (ℓ : Loc Cert.KernelIdeal.nD Cert.KernelIdeal.τ Cert.KernelIdeal.sig) → Buf (Elt Ideal) ℓ)
    (h : Cert.Pre_KernelIdeal m) : PreOK (F := Ideal) m :=
  fun d j => inside_of_pre (F := Ideal) _ _ _ _ _ _ (h d) j

theorem ok_kernel (m : (ℓ : Loc Cert.Kernel.nD Cert.Kernel.τ Cert.Kernel.sig) → Buf (Elt Bits) ℓ)
    (h : Cert.Pre_Kernel m) : PreOK (F := Bits) m :=
  fun d j => inside_of_pre (F := Bits) _ _ _ _ _ _ (h d) j

/-- The frame, over any floats: the arguments end as they began and every counter at zero. -/
theorem run_frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)
        ∧ r.2.mem (c.tc.loc Cert.KernelIdeal.main_arg5) = m (c.tc.loc Cert.KernelIdeal.main_arg5))
      ∧ r.2.sem = fun _ => 0 :=
  (θ_run Cert.KernelIdeal.defs _ _).mono
    (fun _ r => ⟨fun c => ⟨(r.1 c).1, (r.1 c).2.1, (r.1 c).2.2.1, (r.1 c).2.2.2.1, (r.1 c).2.2.2.2.1, (r.1 c).2.2.2.2.2.1⟩, r.2⟩)
    (run_main m ρ h)

theorem frame_kernel : Cert.quiescent_Kernel := by
  intro m ρ h
  rw [defs_same]
  exact run_frame (F := Bits) m ρ (ok_kernel m h)

theorem frame_ideal : Cert.quiescent_KernelIdeal := fun m ρ h => run_frame (F := Ideal) m ρ (ok_ideal m h)

/-- The reference's run, with its counters: it has none. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem (c.tc.loc Cert.ReferenceIdeal.main_v10)
          = Ref.resV (F := Ideal) (m (c.tc.loc Cert.ReferenceIdeal.main_arg0)) (m (c.tc.loc Cert.ReferenceIdeal.main_arg1))
              (m (c.tc.loc Cert.ReferenceIdeal.main_arg2)) (m (c.tc.loc Cert.ReferenceIdeal.main_arg3))
              (m (c.tc.loc Cert.ReferenceIdeal.main_arg4)) (m (c.tc.loc Cert.ReferenceIdeal.main_arg5))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5))
      ∧ r.2.sem = fun _ => 0 :=
  (θ_run Cert.ReferenceIdeal.defs _ _).mono
    (fun r h => ⟨fun c => ⟨(h c _).trans (Ref.ref_at _), (h c _).trans (Ref.ref_arg0 _), (h c _).trans (Ref.ref_arg1 _),
        (h c _).trans (Ref.ref_arg2 _), (h c _).trans (Ref.ref_arg3 _), (h c _).trans (Ref.ref_arg4 _), (h c _).trans (Ref.ref_arg5 _)⟩,
      sem_eq_zero_of_no_sems (by decide) r.2⟩)
    (Ref.run_ref m ρ)

theorem frame_ref : Cert.quiescent_ReferenceIdeal := fun m ρ _ =>
  (θ_run Cert.ReferenceIdeal.defs _ _).mono (fun _ r => ⟨fun c => (r.1 c).2, r.2⟩) (run_ref m ρ)

end Cert.Proof

end
-- ==== Proof.Softmax.lean ====
/-
  A log-softmax taken with two shifts: with its own largest entry, as the reference does, and with the number 16, as the
  kernel does. Over the extended reals the two agree at every row, infinities included. Also the two constants' values.
-/
module

public import Idealize.ShloMosaic.PureOps.Ideal

@[expose] public section

noncomputable section

namespace Cert.Proof.Soft

open Idealize.ShloMosaic
open scoped BigOperators

/-- The kernel's shift denotes the real 16. -/
theorem ofBits_sixteen : Ideal.ofBits .f32 0x41800000#32 = ((16 : ℝ) : EReal) := by
  simp [Ideal.ofBits, Ideal.ieee, -EReal.coe_mul]; norm_num

/-- The start of the running maximum denotes the least extended real. -/
theorem ofBits_low : Ideal.ofBits .f32 0xFF800000#32 = (⊥ : EReal) := by
  simp [Ideal.ofBits, Ideal.ieee]

/-- A sum of reals, taken as extended reals. -/
theorem coe_total {ι : Type} (t : Finset ι) (f : ι → ℝ) : (∑ u ∈ t, ((f u : ℝ) : EReal)) = ((∑ u ∈ t, f u : ℝ) : EReal) := by
  classical
  induction t using Finset.induction_on with
  | empty => simp
  | insert a t h ih => rw [Finset.sum_insert h, Finset.sum_insert h, ih, EReal.coe_add]

theorem exp_nonneg (x : EReal) : 0 ≤ Ideal.exp x := by
  induction x with
  | bot => simp
  | top => simp
  | coe r => rw [Ideal.exp_coe]; exact_mod_cast (Real.exp_pos r).le

/-- The fold of the maximum from the least value bounds every entry, and is one of them. -/
theorem fold_max_spec {n : ℕ} (s : Fin n → EReal) :
    (∀ u, s u ≤ Finset.univ.fold max ⊥ s) ∧ (0 < n → ∃ u, s u = Finset.univ.fold max ⊥ s) := by
  have e : Finset.univ.fold max ⊥ s = Finset.univ.sup s := rfl
  refine ⟨fun u => e ▸ Finset.le_sup (Finset.mem_univ u), fun h => ?_⟩
  rw [e]
  obtain ⟨u, _, hu⟩ := Finset.exists_mem_eq_sup Finset.univ ⟨⟨0, h⟩, Finset.mem_univ _⟩ s
  exact ⟨u, hu.symm⟩

/-- A row whose largest entry is real: the total with one shift is the total with the other times a power. -/
theorem shift_real {n : ℕ} (s : Fin n → EReal) (v : Fin n) (M : ℝ) (hle : ∀ u, s u ≤ (M : EReal)) (hex : ∃ u, s u = (M : EReal)) :
    (s v - (M : EReal)) - Ideal.log (∑ u, Ideal.exp (s u - (M : EReal)))
      = s v - (((16 : ℝ) : EReal) + Ideal.log (∑ u, Ideal.exp (s u - ((16 : ℝ) : EReal)))) := by
  classical
  obtain ⟨u0, hu0⟩ := hex
  let E : Fin n → ℝ := fun u => if s u = ⊥ then 0 else Real.exp ((s u).toReal - M)
  have hreal : ∀ u, s u ≠ ⊥ → s u = (((s u).toReal : ℝ) : EReal) := fun u h =>
    (EReal.coe_toReal (fun ht => by have := hle u; rw [ht] at this; exact absurd (top_le_iff.1 this) (EReal.coe_ne_top M)) h).symm
  have h1 : ∀ u, Ideal.exp (s u - (M : EReal)) = ((E u : ℝ) : EReal) := by
    intro u
    by_cases h : s u = ⊥
    · simp [E, h]
    · simp only [E, if_neg h]
      conv_lhs => rw [hreal u h]
      rw [← EReal.coe_sub, Ideal.exp_coe]
  have h2 : ∀ u, Ideal.exp (s u - ((16 : ℝ) : EReal)) = ((Real.exp (M - 16) * E u : ℝ) : EReal) := by
    intro u
    by_cases h : s u = ⊥
    · simp [E, h]
    · simp only [E, if_neg h]
      conv_lhs => rw [hreal u h]
      rw [← EReal.coe_sub, Ideal.exp_coe, ← Real.exp_add]
      congr 2; ring
  have hE : ∀ u, 0 ≤ E u := by
    intro u; simp only [E]; split
    · exact le_refl _
    · exact (Real.exp_pos _).le
  have hE0 : E u0 = 1 := by
    simp [E, hu0]
  have hT : 0 < ∑ u, E u :=
    lt_of_lt_of_le (by rw [hE0]; exact one_pos) (Finset.single_le_sum (fun u _ => hE u) (Finset.mem_univ u0))
  have hP : 0 < Real.exp (M - 16) * ∑ u, E u := mul_pos (Real.exp_pos _) hT
  rw [Finset.sum_congr rfl fun u _ => h1 u, Finset.sum_congr rfl fun u _ => h2 u, coe_total, coe_total, ← Finset.mul_sum,
    Ideal.log_coe, Ideal.log_coe, if_neg (not_le.2 hT), if_neg (not_le.2 hP), Real.log_mul (Real.exp_pos _).ne' hT.ne', Real.log_exp]
  by_cases h : s v = ⊥
  · rw [h]; simp
  · rw [hreal v h]
    norm_cast
    ring

/-- The two shifts give the same log-softmax. -/
theorem shift {n : ℕ} (s : Fin n → EReal) (v : Fin n) :
    (s v - Finset.univ.fold max ⊥ s) - Ideal.log (∑ u, Ideal.exp (s u - Finset.univ.fold max ⊥ s))
      = s v - (((16 : ℝ) : EReal) + Ideal.log (∑ u, Ideal.exp (s u - ((16 : ℝ) : EReal)))) := by
  obtain ⟨hle, hex⟩ := fold_max_spec s
  have hex := hex (Nat.lt_of_le_of_lt (Nat.zero_le _) v.isLt)
  generalize Finset.univ.fold max ⊥ s = M at hle hex
  induction M with
  | bot =>
    have h : s v = ⊥ := le_bot_iff.1 (hle v)
    rw [h]; simp
  | coe M => exact shift_real s v M hle hex
  | top =>
    obtain ⟨u, hu⟩ := hex
    have hs : (∑ u, Ideal.exp (s u - ((16 : ℝ) : EReal))) = ⊤ := by
      refine top_le_iff.1 (le_trans ?_ (Finset.single_le_sum (fun u _ => exp_nonneg _) (Finset.mem_univ u)))
      rw [hu, EReal.top_sub_coe]; simp
    rw [hs, Ideal.log_top, EReal.coe_add_top]
    simp [sub_eq_add_neg]

end Cert.Proof.Soft

end
-- ==== Proof.Payloads.lean ====
/-
  What the two dense calls compute from their blocks, read at an index over the extended reals.
-/
module

public import proofs.«01_k».proof.Proof.Main
public import proofs.«01_k».proof.Proof.Softmax
public import Idealize.ShloMosaic.Lib.MatmulPlain
public import Idealize.ShloMosaic.Lib.ValueIdx
public import Idealize.ShloMosaic.Lib.WordCmp
public import Idealize.ShloMosaic.PureOps.Ideal.Laws

@[expose] public section

noncomputable section

namespace Cert.Proof

open Cert.KernelIdeal Cert.KernelIdeal.Gen
open Idealize.ShloMosaic Idealize.ShloMosaic.TcCoe
open Idealize.ShloMosaic.ValueIdx (ix1 ix2 ix3 eq_ix2)
open scoped BigOperators

namespace Val

/-! ## Operations at an index -/

theorem exp_at {s : Shape} (y : s.Idx → Ideal .f32) (j : s.Idx) : exp (F := Ideal) (φ := .f32) y j = Ideal.exp (y j) := rfl
theorem log_at {s : Shape} (y : s.Idx → Ideal .f32) (j : s.Idx) : log (F := Ideal) (φ := .f32) y j = Ideal.log (y j) := rfl
theorem sub_at {s : Shape} (x y : s.Idx → Ideal .f32) (j : s.Idx) :
    subf (F := Ideal) (φ := .f32) x y j = ((x j : EReal) - (y j : EReal) : EReal) := rfl
theorem max_at {s : Shape} (x y : s.Idx → Ideal .f32) (j : s.Idx) :
    maximumf (F := Ideal) (φ := .f32) x y j = (max (x j : EReal) (y j : EReal) : EReal) := rfl
theorem add_at {s : Shape} (x y : s.Idx → Ideal .f32) (j : s.Idx) :
    addf (F := Ideal) (φ := .f32) x y j = ((x j : EReal) + (y j : EReal) : EReal) := rfl
theorem splat_at {s : Shape} (b : BitVec 32) (j : s.Idx) :
    broadcast s (Scalar.ofBits (F := Ideal) .f32 b) j = Ideal.ofBits .f32 b := rfl
theorem narrow_at {s : Shape} (x : s.Idx → Ideal .f32) (h : FTy.bits .bf16 < FTy.bits .f32) (j : s.Idx) :
    truncf (F := Ideal) (φ := .f32) .bf16 x h j = x j := rfl
theorem same_at {s : Shape} {α : Type} (x : s.Idx → α) (h : s.ShapeCasts s) (j : s.Idx) : shapeCast s x h j = x j :=
  shapeCast_apply _ _ _ _ rfl

/-- A comparison with zero, as a choice. -/
theorem pick_at {s : Shape} {α : Type} (p : s.Idx → Ideal .f32) (z : Ideal .f32) (hz : z = (0 : EReal)) (j : s.Idx) (x y : α) :
    Scalar.select (cmpf (F := Ideal) (φ := .f32) .ogt p (broadcast s z) j) x y = if (0 : EReal) < p j then x else y := by
  subst hz
  exact WordCmp.select_decide _ _ _

/-! ## The two products -/

/-- The first layer's product: both operands are read across. -/
theorem dot1_at (w : S64x128.Idx → Ideal .f32) (x : S1024x64.Idx → Ideal .f32) (k : Fin 128) (r : Fin 1024) :
    matmul dot_S64x128_S1024x64_S128x1024_0_1_1_0_n_n none w x (constant S128x1024 .f32 0x00000000#32) (ix2 k r)
      = (∑ j : Fin 64, (w (ix2 j k) : EReal) * (x (ix2 r j) : EReal) : EReal) := by
  refine (Ideal.matmul_constant_zero_apply (φ₁ := .f32) (φ₂ := .f32) _ none w x (ix2 k r)).trans ?_
  rw [← Equiv.sum_comp (ValueIdx.contrEquiv1 dot_S64x128_S1024x64_S128x1024_0_1_1_0_n_n 64 rfl rfl).symm]
  refine Finset.sum_congr rfl fun j _ => ?_
  have hj := ValueIdx.contrEquiv1_symm_val dot_S64x128_S1024x64_S128x1024_0_1_1_0_n_n 64 rfl rfl j
  have el : dot_S64x128_S1024x64_S128x1024_0_1_1_0_n_n.lhsIdx (ix2 k r) ((ValueIdx.contrEquiv1 _ 64 rfl rfl).symm j) = ix2 j k := by
    funext a; apply Fin.ext
    match a with
    | ⟨0, _⟩ => exact hj
    | ⟨1, _⟩ => rfl
  have er : dot_S64x128_S1024x64_S128x1024_0_1_1_0_n_n.rhsIdx (ix2 k r) ((ValueIdx.contrEquiv1 _ 64 rfl rfl).symm j) = ix2 r j := by
    funext a; apply Fin.ext
    match a with
    | ⟨0, _⟩ => rfl
    | ⟨1, _⟩ => exact hj
  rw [el, er]

/-- The second layer's product over one block. -/
theorem dot2_at (w : S4000x128.Idx → Ideal .bf16) (h : S128x1024.Idx → Ideal .bf16) (q : Fin 4000) (r : Fin 1024) :
    matmul dot_S4000x128_S128x1024_S4000x1024_1_0_0_1_n_n none w h (constant S4000x1024 .f32 0x00000000#32) (ix2 q r)
      = (∑ k : Fin 128, (w (ix2 q k) : EReal) * (h (ix2 k r) : EReal) : EReal) := by
  refine (Ideal.matmul_plain_apply (M := 4000) (K := 128) (N := 1024) (φ₁ := .bf16) (φ₂ := .bf16) none w h
    (constant S4000x1024 .f32 0x00000000#32) q r).trans ?_
  show Ideal.ofBits .f32 0x00000000#32 + _ = _
  rw [Ideal.ofBits_zero_f32, zero_add]

/-! ## The hidden layer -/

theorem hid_at (e : S1024x128.Idx → Ideal .f32) (p : S1024x1.Idx → Ideal .f32) (w : S64x128.Idx → Ideal .f32) (b : S128x1.Idx → Ideal .f32)
    (k : Fin 128) (r : Fin 1024) :
    k2_pay1 (F := Ideal) e p w b (ix2 k r)
      = (max ((∑ j : Fin 64, (w (ix2 j k) : EReal)
          * (if (0 : EReal) < p (ix2 (n0 := 1024) (n1 := 1) r 0) then (e (ix2 (n0 := 1024) (n1 := 128) r ⟨64 + j.val, by omega⟩) : EReal)
              else (e (ix2 (n0 := 1024) (n1 := 128) r ⟨j.val, by omega⟩) : EReal)))
          + (b (ix2 (n0 := 128) (n1 := 1) k 0) : EReal)) 0 : EReal) := by
  unfold k2_pay1
  rw [narrow_at, max_at, add_at, splat_at, Ideal.ofBits_zero_f32, dot1_at,
    broadcastTo_apply _ _ _ (ix2 (n0 := 128) (n1 := 1) k 0) (by intro a; fin_cases a <;> rfl), same_at]
  refine congrArg (fun z : EReal => max (z + (b (ix2 (n0 := 128) (n1 := 1) k 0) : EReal)) 0) (Finset.sum_congr rfl fun j _ => ?_)
  refine congrArg (fun z : EReal => (w (ix2 j k) : EReal) * z) ?_
  rw [WordCmp.select_at, broadcastTo_apply _ _ _ (ix2 (n0 := 1024) (n1 := 1) r 0) (by intro a; fin_cases a <;> rfl), same_at,
    pick_at _ (FloatOps.ofBits .f32 0x00000000#32) Ideal.ofBits_zero_f32, same_at,
    extractStridedSlice_apply _ _ _ _ (ix2 (n0 := 1024) (n1 := 128) r ⟨64 + j.val, by omega⟩)
      (by intro a; fin_cases a; exacts [(Nat.zero_add _).symm, rfl]),
    extractStridedSlice_apply _ _ _ _ (ix2 (n0 := 1024) (n1 := 128) r ⟨j.val, by omega⟩)
      (by intro a; fin_cases a <;> exact (Nat.zero_add _).symm), same_at, same_at]

/-! ## One block's share of the totals -/

theorem lift_col (r : Fin 1024) (q : Fin 4000) : reduces_S4000x1024_S1024.lift (ix1 r) q = ix2 q r := by
  funext a; apply Fin.ext
  match a with
  | ⟨0, _⟩ => rfl
  | ⟨1, _⟩ => rfl

/-- A block's biases as a column. -/
theorem bias_at (b : S1x1x4000.Idx → Ideal .f32) (q : Fin 4000) :
    transpose S4000x1 [1, 0] (shapeCast S1x4000 b shapeCasts_S1x1x4000_S1x4000) transposes_S1x4000_p1_0_S4000x1 (ix2 (n0 := 4000) (n1 := 1) q 0)
      = b (ix3 (n0 := 1) (n1 := 1) (n2 := 4000) 0 0 q) := by
  rw [transpose_apply _ _ _ _ (ix2 (n0 := 1) (n1 := 4000) 0 q) (by intro a; fin_cases a <;> rfl),
    shapeCast_apply _ _ _ (ix3 (n0 := 1) (n1 := 1) (n2 := 4000) 0 0 q)
      (by rw [Shape.rowMajor_val_three, Shape.rowMajor_val_two]; simp [ix2, ix3])]

theorem zero_at (r : Fin 1024) : k2_pay2 (F := Ideal) (ix2 (n0 := 1) (n1 := 1024) 0 r) = (0 : EReal) := by
  unfold k2_pay2
  rw [same_at, splat_at, Ideal.ofBits_zero_f32]

theorem share_at (w : S4000x128.Idx → Ideal .f32) (b : S1x1x4000.Idx → Ideal .f32) (h : S128x1024.Idx → Ideal .bf16) (t : S1x1024.Idx → Ideal .f32)
    (r : Fin 1024) :
    k2_pay3 (F := Ideal) w b h t (ix2 (n0 := 1) (n1 := 1024) 0 r)
      = ((t (ix2 (n0 := 1) (n1 := 1024) 0 r) : EReal) + ∑ q : Fin 4000, Ideal.exp ((∑ k : Fin 128, (w (ix2 q k) : EReal) * (h (ix2 k r) : EReal))
          + ((b (ix3 (n0 := 1) (n1 := 1) (n2 := 4000) 0 0 q) : EReal) - ((16 : ℝ) : EReal))) : EReal) := by
  unfold k2_pay3
  dsimp only
  rw [same_at, add_at, shapeCast_apply _ _ _ (ix1 r) (by rw [Shape.rowMajor_val_one, Shape.rowMajor_val_two]; simp [ix1, ix2])]
  refine congrArg (fun z : EReal => (t (ix2 (n0 := 1) (n1 := 1024) 0 r) : EReal) + z) ?_
  refine (Ideal.multiReduction_add_single _ _ _ _ _ _).trans (Finset.sum_congr rfl fun (q : Fin 4000) _ => ?_)
  refine (congrArg _ (lift_col r q)).trans ?_
  rw [exp_at, add_at, dot2_at, broadcastTo_apply _ _ _ (ix2 (n0 := 4000) (n1 := 1) q 0) (by intro a; fin_cases a <;> rfl),
    sub_at, splat_at, Soft.ofBits_sixteen, bias_at]
  refine congrArg (fun z : EReal => Ideal.exp (z + _)) (Finset.sum_congr rfl fun k _ => ?_)
  rw [narrow_at, same_at, same_at]

theorem logs_at (t : S1x1024.Idx → Ideal .f32) (j : S1x1024.Idx) :
    k2_pay4 (F := Ideal) t j = (((16 : ℝ) : EReal) + Ideal.log (t j) : EReal) := by
  unfold k2_pay4
  rw [add_at, splat_at, Soft.ofBits_sixteen, log_at]

/-! ## One block of the result -/

theorem res_at (w : S4000x128.Idx → Ideal .f32) (h : S128x1024.Idx → Ideal .bf16) (b : S1x1x4000.Idx → Ideal .f32) (g : S1x1024.Idx → Ideal .f32)
    (q : Fin 4000) (r : Fin 1024) :
    k3_pay1 (F := Ideal) w h b g (ix2 q r)
      = (((∑ k : Fin 128, (w (ix2 q k) : EReal) * (h (ix2 k r) : EReal)) + (b (ix3 (n0 := 1) (n1 := 1) (n2 := 4000) 0 0 q) : EReal))
          - (g (ix2 (n0 := 1) (n1 := 1024) 0 r) : EReal) : EReal) := by
  unfold k3_pay1
  dsimp only
  rw [sub_at, add_at, dot2_at, broadcastTo_apply _ _ _ (ix2 (n0 := 4000) (n1 := 1) q 0) (by intro a; fin_cases a <;> rfl), bias_at,
    broadcastTo_apply _ _ _ (ix2 (n0 := 1) (n1 := 1024) 0 r) (by intro a; fin_cases a <;> rfl), same_at]
  refine congrArg (fun z : EReal => (z + _) - _) (Finset.sum_congr rfl fun k _ => ?_)
  rw [narrow_at, same_at, same_at]

end Val

end Cert.Proof

end
-- ==== Proof.RefValue.lean ====
/-
  The reference's value read at an index, over the extended reals: the looked-up row, the hidden layer, the scores and
  their log-softmax, each as a plain formula.
-/
module

public import proofs.«01_k».proof.Proof.Reference
public import proofs.«01_k».proof.Proof.Softmax
public import Idealize.ShloMosaic.Lib.StackMember
public import Idealize.ShloMosaic.Lib.Routing.Ops
public import Idealize.ShloMosaic.Lib.Pipeline.Value
public import Idealize.ShloMosaic.Lib.ReduceAll
public import Idealize.ShloMosaic.Lib.WordCmp
public import Idealize.ShloMosaic.PureOps.Ideal.Laws

@[expose] public section

noncomputable section

/-! ## The formulas both programs are read as -/

namespace Cert.Proof.Math

open scoped BigOperators

/-- One entry of the hidden layer, of a row of the table. -/
def hid (x : Fin 64 → EReal) (w : Fin 64 → Fin 128 → EReal) (b : Fin 128 → EReal) (k : Fin 128) : EReal :=
  max ((∑ j, x j * w j k) + b k) 0

/-- One score, of a hidden row. -/
def score (h : Fin 128 → EReal) (w : Fin 128 → Fin 100000 → EReal) (b : Fin 100000 → EReal) (v : Fin 100000) : EReal :=
  (∑ k, h k * w k v) + b v

end Cert.Proof.Math

namespace Cert.Proof.Ref

open Cert.ReferenceIdeal Cert.ReferenceIdeal.Gen
open Idealize.ShloMosaic Idealize.ShloMosaic.TcCoe
open Idealize.ShloMosaic.ValueIdx (ix1 ix2 eq_ix2)
open scoped BigOperators

/-! ## Operations at an index -/

theorem hostExp_at {s : Shape} (y : s.Idx → Ideal .f32) (j : s.Idx) : Host.exp (F := Ideal) (φ := .f32) y j = Ideal.exp (y j) := rfl
theorem hostLog_at {s : Shape} (y : s.Idx → Ideal .f32) (j : s.Idx) : Host.log (F := Ideal) (φ := .f32) y j = Ideal.log (y j) := rfl
theorem sub_at {s : Shape} (x y : s.Idx → Ideal .f32) (j : s.Idx) :
    subf (F := Ideal) (φ := .f32) x y j = ((x j : EReal) - (y j : EReal) : EReal) := rfl
theorem max_at {s : Shape} (x y : s.Idx → Ideal .f32) (j : s.Idx) :
    maximumf (F := Ideal) (φ := .f32) x y j = (max (x j : EReal) (y j : EReal) : EReal) := rfl
theorem add_at {s : Shape} (x y : s.Idx → Ideal .f32) (j : s.Idx) :
    addf (F := Ideal) (φ := .f32) x y j = ((x j : EReal) + (y j : EReal) : EReal) := rfl
theorem bc_at {t : Shape} (b : BitVec 32) (h : S_.BroadcastsInDim t ![]) (j : t.Idx) :
    broadcastInDim t ![] h (constant (F := Ideal) S_ .f32 b) j = Ideal.ofBits .f32 b := rfl

/-! ## The row lookup -/

/-- A row number inside the table is used as it stands. -/
theorem wrap_word (w : BitVec 32) (h : w.toNat < 100000) :
    Scalar.select (IntOp.cmpi .slt w 0#32) (IntOp.addi w 100000#32) w = w := by
  rw [WordCmp.cmpi_slt_zero, decide_eq_false (by show ¬ (2 ^ 31 ≤ w.toNat); omega)]
  rfl

theorem wrapV_at (a0 : S1024.Idx → BitVec 32) (h : ∀ j, (a0 j).toNat < 100000) (j : S1024.Idx) : wrapV a0 j = a0 j :=
  wrap_word (a0 j) (h j)

theorem colV_at (a0 : S1024.Idx → BitVec 32) (h : ∀ j, (a0 j).toNat < 100000) (r : Fin 1024) (i : Fin 1) :
    colV a0 (ix2 r i) = a0 (ix1 r) := by
  unfold colV
  rw [broadcastInDim_apply _ _ _ _ (ix1 r) (by intro a; fin_cases a; rfl)]
  exact wrapV_at a0 h _

theorem inside_word (w : BitVec 32) (h : w.toNat < 100000) :
    IntOp.andi (IntOp.cmpi .sge w 0#32) (IntOp.cmpi .sle w 99999#32) = 1#1 := by
  rw [WordCmp.cmpi_sge_zero, WordCmp.cmpi_sle_of_lt (by show w.toNat < 2 ^ 31; omega) (by decide), WordCmp.andi_ofBool,
    WordCmp.ofBool_eq_one_iff, Bool.and_eq_true, decide_eq_true_iff, decide_eq_true_iff]
  refine ⟨by show w.toNat < 2 ^ 31; omega, ?_⟩
  show w.toNat ≤ 99999
  omega

theorem insideV_at (a0 : S1024.Idx → BitVec 32) (h : ∀ j, (a0 j).toNat < 100000) (j : S1024.Idx) : insideV a0 j = 1#1 := by
  unfold insideV
  refine Host.reduce_andi_one _ _ _ _ _ rfl fun i => ?_
  have e : colV a0 i = a0 (ix1 (i 0)) := by
    conv_lhs => rw [eq_ix2 i]
    exact colV_at a0 h _ _
  show IntOp.andi (IntOp.cmpi .sge (colV a0 i) 0#32) (IntOp.cmpi .sle (colV a0 i) 99999#32) = 1#1
  rw [e]
  exact inside_word _ (h _)

theorem takeV_at (a1 : S100000x64.Idx → Ideal .f32) (a0 : S1024.Idx → BitVec 32) (h : ∀ j, (a0 j).toNat < 100000)
    (r : Fin 1024) (c : Fin 64) :
    takeV (F := Ideal) a1 a0 (ix2 r c) = a1 (ix2 (n0 := 100000) ⟨(a0 (ix1 r)).toNat, h _⟩ c) := by
  have e1 : broadcastInDim S1024x64 ![0] bcast_S1024_S1024x64_0 (insideV a0) (ix2 r c) = 1#1 := insideV_at a0 h _
  have e2 := Routing.gather_row gather_S100000x64_S1024x1_S1024x64_1_0_n_n_0_1_164 rfl rfl rfl rfl rfl a1 (colV a0) r c
    ⟨(a0 (ix1 r)).toNat, h _⟩ ((colV_at a0 h r 0).trans (by simp)) (by decide)
  unfold takeV
  rw [WordCmp.select_at, e1, WordCmp.select_one]
  exact e2

/-! ## The two layers -/

theorem dot1_plain : dot_S1024x64_S64x128_S1024x128_1_0_0_1_n_n = DotDims.plain 1024 64 128 := rfl
theorem dot2_plain : dot_S1024x128_S128x100000_S1024x100000_1_0_0_1_n_n = DotDims.plain 1024 128 100000 := rfl

theorem hiddenV_at (x : S1024x64.Idx → Ideal .f32) (a2 : S64x128.Idx → Ideal .f32) (a3 : S128.Idx → Ideal .f32)
    (r : Fin 1024) (k : Fin 128) :
    hiddenV (F := Ideal) x a2 a3 (ix2 r k)
      = Math.hid (fun j => x (ix2 r j)) (fun j k => a2 (ix2 j k)) (fun k => a3 (ix1 k)) k := by
  have e1 := StackMember.dotGeneral_plain_apply (m := 1024) (n := 128) (k := 64) (φ₁ := .f32) (φ₂ := .f32) none x a2 r k
  have e2 : broadcastInDim S1024x128 ![0, 1] bcast_S1x128_S1024x128_0_1 (broadcastInDim S1x128 ![1] bcast_S128_S1x128_1 a3) (ix2 r k)
      = a3 (ix1 k) := by
    rw [broadcastInDim_apply _ _ _ _ (ix2 (n0 := 1) (n1 := 128) 0 k) (by intro a; fin_cases a <;> rfl),
      broadcastInDim_apply _ _ _ _ (ix1 k) (by intro a; fin_cases a; rfl)]
  unfold hiddenV
  rw [max_at, add_at, bc_at, Ideal.ofBits_zero_f32]
  exact congrArg (fun z : EReal => max z 0) (congrArg₂ (fun a b : EReal => a + b) e1 e2)

theorem scoreV_at (h : S1024x128.Idx → Ideal .f32) (a4 : S128x100000.Idx → Ideal .f32) (a5 : S100000.Idx → Ideal .f32)
    (r : Fin 1024) (v : Fin 100000) :
    scoreV (F := Ideal) h a4 a5 (ix2 r v)
      = Math.score (fun k => h (ix2 r k)) (fun k v => a4 (ix2 k v)) (fun v => a5 (ix1 v)) v := by
  have e1 := StackMember.dotGeneral_plain_apply (m := 1024) (n := 100000) (k := 128) (φ₁ := .f32) (φ₂ := .f32) none h a4 r v
  have e2 : broadcastInDim S1024x100000 ![0, 1] bcast_S1x100000_S1024x100000_0_1 (broadcastInDim S1x100000 ![1] bcast_S100000_S1x100000_1 a5) (ix2 r v)
      = a5 (ix1 v) := by
    rw [broadcastInDim_apply _ _ _ _ (ix2 (n0 := 1) (n1 := 100000) 0 v) (by intro a; fin_cases a <;> rfl),
      broadcastInDim_apply _ _ _ _ (ix1 v) (by intro a; fin_cases a; rfl)]
  unfold scoreV
  rw [add_at]
  exact congrArg₂ (fun a b : EReal => a + b) e1 e2

/-! ## The log-softmax -/

theorem reduces_row : S1024x100000.Reduces [1] S1024 := by decide

theorem lift_row (r : Fin 1024) (u : Fin 100000) : reduces_row.lift (ix1 r) u = ix2 r u := by
  funext a; apply Fin.ext
  match a with
  | ⟨0, _⟩ => rfl
  | ⟨1, _⟩ => rfl

/-- The largest entry of a row of scores. -/
abbrev top (x : S1024x100000.Idx → Ideal .f32) (r : Fin 1024) : EReal :=
  Finset.univ.fold max (⊥ : EReal) (fun u : Fin 100000 => (x (ix2 r u) : EReal))

/-- The largest entries, row by row. -/
def maxV (x : S1024x100000.Idx → Ideal .f32) : S1024.Idx → Ideal .f32 :=
  Host.reduce FloatOps.maximumf x (constant S_ .f32 0xFF800000#32) reducesTo_S1024x100000_S1024_d1 h_S_

theorem maxV_at (x : S1024x100000.Idx → Ideal .f32) (r : Fin 1024) : maxV x (ix1 r) = top x r := by
  unfold maxV
  rw [Host.reduce_eq_fold_single FloatOps.maximumf x _ reducesTo_S1024x100000_S1024_d1 reduces_row h_S_]
  have hf : (x ∘ reduces_row.lift (ix1 r)) = fun u : Fin 100000 => x (ix2 r u) := funext fun u => congrArg x (lift_row r u)
  have hb : (constant S_ .f32 0xFF800000#32 : S_.Idx → Ideal .f32) (Shape.Idx.first h_S_) = (⊥ : EReal) := Soft.ofBits_low
  rw [hb]
  exact congrArg (fun f => Finset.fold max (⊥ : EReal) f (Finset.univ : Finset (Fin 100000))) hf

/-- The totals of the powers, row by row. -/
def totV (y : S1024x100000.Idx → Ideal .f32) : S1024.Idx → Ideal .f32 :=
  Host.reduceAdd (Host.exp y) (constant S_ .f32 0x00000000#32) reducesTo_S1024x100000_S1024_d1 h_S_

theorem totV_at (y : S1024x100000.Idx → Ideal .f32) (r : Fin 1024) :
    totV y (ix1 r) = (∑ u : Fin 100000, Ideal.exp (y (ix2 r u)) : EReal) := by
  have e := Ideal.hostReduceAdd_single reducesTo_S1024x100000_S1024_d1 reduces_row
    (Host.exp (F := Ideal) (φ := .f32) y) (Ideal.ofBits .f32 0x00000000#32) (ix1 r)
  refine Eq.trans (b := Ideal.hostReduceAdd reducesTo_S1024x100000_S1024_d1 (Host.exp (F := Ideal) (φ := .f32) y)
    (Ideal.ofBits .f32 0x00000000#32) (ix1 r)) rfl (e.trans ?_)
  rw [Ideal.ofBits_zero_f32, zero_add]
  exact Finset.sum_congr rfl fun u _ =>
    (hostExp_at y _).trans (congrArg (fun i => Ideal.exp (y i)) (lift_row r u))

/-- A column spread over a row reads its one entry. -/
theorem spread_at (z : S1024x1.Idx → Ideal .f32) (r : Fin 1024) (v : Fin 100000) :
    broadcastInDim S1024x100000 ![0, 1] bcast_S1024x1_S1024x100000_0_1 z (ix2 r v) = z (ix2 (n0 := 1024) (n1 := 1) r 0) :=
  broadcastInDim_apply _ _ _ _ _ (by intro a; fin_cases a <;> rfl)

theorem column_at (z : S1024.Idx → Ideal .f32) (r : Fin 1024) :
    broadcastInDim S1024x1 ![0] bcast_S1024_S1024x1_0 z (ix2 (n0 := 1024) (n1 := 1) r 0) = z (ix1 r) :=
  broadcastInDim_apply _ _ _ _ _ (by intro a; fin_cases a; rfl)

theorem shiftV_eq (x : S1024x100000.Idx → Ideal .f32) :
    shiftV (F := Ideal) x = subf x (broadcastInDim S1024x100000 ![0, 1] bcast_S1024x1_S1024x100000_0_1 (broadcastInDim S1024x1 ![0] bcast_S1024_S1024x1_0
      (maximumf (broadcastInDim S1024 ![] bcast_S_S1024 (constant S_ .f32 0xFF800000#32)) (maxV x)))) := by
  unfold shiftV maxV; rfl

theorem shiftV_at (x : S1024x100000.Idx → Ideal .f32) (r : Fin 1024) (v : Fin 100000) :
    shiftV (F := Ideal) x (ix2 r v) = ((x (ix2 r v) : EReal) - top x r : EReal) := by
  rw [shiftV_eq, sub_at, spread_at, column_at, max_at, bc_at, Soft.ofBits_low, maxV_at, max_eq_right bot_le]

theorem lsmV_eq (x : S1024x100000.Idx → Ideal .f32) :
    lsmV (F := Ideal) x = subf (shiftV x) (broadcastInDim S1024x100000 ![0, 1] bcast_S1024x1_S1024x100000_0_1 (Host.log
      (broadcastInDim S1024x1 ![0] bcast_S1024_S1024x1_0 (totV (shiftV x))))) := by
  unfold lsmV totV; rfl

theorem lsmV_at (x : S1024x100000.Idx → Ideal .f32) (r : Fin 1024) (v : Fin 100000) :
    lsmV (F := Ideal) x (ix2 r v)
      = (((x (ix2 r v) : EReal) - top x r) - Ideal.log (∑ u : Fin 100000, Ideal.exp ((x (ix2 r u) : EReal) - top x r)) : EReal) := by
  rw [lsmV_eq, sub_at, spread_at, hostLog_at, column_at, totV_at, shiftV_at]
  exact congrArg (fun z : EReal => ((x (ix2 r v) : EReal) - top x r) - Ideal.log z) (Finset.sum_congr rfl fun u _ => congrArg Ideal.exp (shiftV_at x r u))

/-- The reference at an index, with the kernel's shift. -/
theorem resV_at (a0 : S1024.Idx → BitVec 32) (a1 : S100000x64.Idx → Ideal .f32) (a2 : S64x128.Idx → Ideal .f32) (a3 : S128.Idx → Ideal .f32)
    (a4 : S128x100000.Idx → Ideal .f32) (a5 : S100000.Idx → Ideal .f32) (h : ∀ j, (a0 j).toNat < 100000) (r : Fin 1024) (v : Fin 100000)
    (s : Fin 100000 → EReal)
    (hs : s = Math.score (Math.hid (fun j => a1 (ix2 (n0 := 100000) ⟨(a0 (ix1 r)).toNat, h _⟩ j)) (fun j k => a2 (ix2 j k)) (fun k => a3 (ix1 k)))
      (fun k v => a4 (ix2 k v)) (fun v => a5 (ix1 v))) :
    (resV (F := Ideal) a0 a1 a2 a3 a4 a5 (ix2 r v) : EReal)
      = s v - (((16 : ℝ) : EReal) + Ideal.log (∑ u, Ideal.exp (s u - ((16 : ℝ) : EReal)))) := by
  have e : ∀ u, (scoreV (F := Ideal) (hiddenV (takeV a1 a0) a2 a3) a4 a5 (ix2 r u) : EReal) = s u := by
    intro u
    rw [scoreV_at, hs]
    refine congrArg (fun f => Math.score f _ _ u) (funext fun k => ?_)
    rw [hiddenV_at]
    refine congrArg (fun f => Math.hid f _ _ k) (funext fun j => ?_)
    exact takeV_at a1 a0 h r j
  unfold resV
  rw [lsmV_at, ← Soft.shift s v]
  have et : top (scoreV (F := Ideal) (hiddenV (takeV a1 a0) a2 a3) a4 a5) r = Finset.univ.fold max ⊥ s :=
    congrArg (fun f => Finset.fold max (⊥ : EReal) f (Finset.univ : Finset (Fin 100000))) (funext e)
  rw [et, e]
  simp only [e]

end Cert.Proof.Ref

end
-- ==== Proof.KernelValue.lean ====
/-
  The kernel's value read at an index, over the extended reals: the gathered rows are the table's, the hidden layer and the
  scores are the reference's, and the totals over 25 blocks are one total over the vocabulary.
-/
module

public import proofs.«01_k».proof.Proof.Payloads
public import proofs.«01_k».proof.Proof.RefValue

@[expose] public section

noncomputable section

namespace Cert.Proof

open Cert.KernelIdeal Cert.KernelIdeal.Gen
open Idealize.ShloMosaic Idealize.ShloMosaic.TcCoe
open Idealize.ShloMosaic.ValueIdx (ix1 ix2 ix3 eq_ix2)
open scoped BigOperators

namespace Val

/-! ## Sums over blocks -/

theorem blocks_flat {a b N : ℕ} (h : a * b = N) (g : Fin N → EReal) (f : Fin a → Fin b → EReal)
    (e : ∀ (i : Fin a) (q : Fin b) (hq : b * i.val + q.val < N), f i q = g ⟨b * i.val + q.val, hq⟩) :
    (∑ i : Fin a, ∑ q : Fin b, f i q) = ∑ u, g u := by
  subst h
  rw [← Equiv.sum_comp finProdFinEquiv g, Fintype.sum_prod_type]
  refine Finset.sum_congr rfl fun i _ => Finset.sum_congr rfl fun q _ => ?_
  have hv : (finProdFinEquiv (i, q)).val = b * i.val + q.val := by
    simp [finProdFinEquiv]; ring
  rw [e i q (hv ▸ (finProdFinEquiv (i, q)).isLt)]
  exact congrArg g (Fin.ext hv.symm)

/-- One word's share of a total. -/
def term (W : S100000x128.Idx → Ideal .f32) (B : S25x1x4000.Idx → Ideal .f32) (H : S128x1024.Idx → Ideal .bf16) (r : Fin 1024)
    (i : Fin 25) (q : Fin 4000) : EReal :=
  Ideal.exp ((∑ k : Fin 128, (W (ix2 (n0 := 100000) (n1 := 128) ⟨4000 * i.val + q.val, by omega⟩ k) : EReal) * (H (ix2 k r) : EReal))
    + ((B (ix3 (n0 := 25) (n1 := 1) (n2 := 4000) i 0 q) : EReal) - ((16 : ℝ) : EReal)))

theorem accs_at (W : S100000x128.Idx → Ideal .f32) (B : S25x1x4000.Idx → Ideal .f32) (H : S128x1024.Idx → Ideal .bf16) (r : Fin 1024) (n : ℕ) :
    accs (F := Ideal) W B H n (ix2 (n0 := 1) (n1 := 1024) 0 r)
      = (∑ i ∈ Finset.range n, ∑ q : Fin 4000, term W B H r ⟨i % 25, Nat.mod_lt _ (by decide)⟩ q : EReal) := by
  induction n with
  | zero => exact zero_at r
  | succ n ih =>
    rw [Finset.sum_range_succ, ← ih]
    exact share_at _ _ _ _ r

theorem total_at (W : S100000x128.Idx → Ideal .f32) (B : S25x1x4000.Idx → Ideal .f32) (H : S128x1024.Idx → Ideal .bf16) (r : Fin 1024)
    (g : Fin 100000 → EReal) (e : ∀ (i : Fin 25) (q : Fin 4000) (hq : 4000 * i.val + q.val < 100000), term W B H r i q = g ⟨4000 * i.val + q.val, hq⟩) :
    accs (F := Ideal) W B H 25 (ix2 (n0 := 1) (n1 := 1024) 0 r) = (∑ u, g u : EReal) := by
  rw [accs_at, Finset.sum_range, ← blocks_flat (a := 25) (b := 4000) rfl g (fun i q => term W B H r i q) e]
  refine Finset.sum_congr rfl fun i _ => ?_
  have hi : (⟨i.val % 25, Nat.mod_lt _ (by decide)⟩ : Fin 25) = i := Fin.ext (Nat.mod_eq_of_lt i.isLt)
  rw [hi]

/-! ## @main's arrays at an index -/

variable (m : (ℓ : Loc nD τ sig) → Buf (Elt Ideal) ℓ) (d : Dev nD)

/-- The arguments as arrays of words and of extended reals. -/
abbrev A0 : S1024.Idx → BitVec 32 := m (tl d main_arg0)
abbrev A1 : S100000x64.Idx → Ideal .f32 := m (tl d main_arg1)
abbrev A2 : S64x128.Idx → Ideal .f32 := m (tl d main_arg2)
abbrev A3 : S128.Idx → Ideal .f32 := m (tl d main_arg3)
abbrev A4 : S128x100000.Idx → Ideal .f32 := m (tl d main_arg4)
abbrev A5 : S100000.Idx → Ideal .f32 := m (tl d main_arg5)

theorem V0_at (j : Fin 64) (n : Fin 100000) : (V0 m d : S64x100000.Idx → Ideal .f32) (ix2 j n) = A1 m d (ix2 n j) :=
  transpose_apply _ _ _ _ (ix2 n j) (by intro a; fin_cases a <;> rfl)

theorem V11_at (v : Fin 100000) (k : Fin 128) : V11 m d (ix2 v k) = A4 m d (ix2 k v) :=
  transpose_apply _ _ _ _ (ix2 k v) (by intro a; fin_cases a <;> rfl)

theorem V12_at (i : Fin 25) (q : Fin 4000) (hq : 4000 * i.val + q.val < 100000) :
    V12 m d (ix3 (n0 := 25) (n1 := 1) (n2 := 4000) i 0 q) = A5 m d (ix1 ⟨4000 * i.val + q.val, hq⟩) :=
  shapeCast_apply _ _ _ (ix1 ⟨4000 * i.val + q.val, hq⟩)
    (by rw [Shape.rowMajor_val_one, Shape.rowMajor_val_three]; simp [ix1, ix3]; ring)

theorem V13_at (k : Fin 128) : V13 m d (ix2 (n0 := 128) (n1 := 1) k 0) = A3 m d (ix1 k) :=
  shapeCast_apply _ _ _ (ix1 k) (by rw [Shape.rowMajor_val_one, Shape.rowMajor_val_two]; simp [ix1, ix2])

theorem half_pos (p : Prop) [Decidable p] :
    ((0 : EReal) < (((BitVec.ofBool (decide p)).toNat : ℝ) : EReal)) ↔ p := by
  by_cases h : p <;> simp [h]

theorem V10_at (hm : PreOK m) (r : Fin 1024) :
    (0 : EReal) < V10 m d (ix2 (n0 := 1024) (n1 := 1) r 0) ↔ 51200 ≤ (A0 m d (ix1 r)).toNat := by
  have e : V10 m d (ix2 (n0 := 1024) (n1 := 1) r 0)
      = (((BitVec.ofBool (decide (51200 ≤ (A0 m d (ix1 r)).toNat))).toNat : ℝ) : EReal) := by
    unfold V10
    rw [shapeCast_apply _ _ _ (ix1 r) (by rw [Shape.rowMajor_val_one, Shape.rowMajor_val_two]; simp [ix1, ix2])]
    exact congrArg (fun w : BitVec 1 => ((w.toNat : ℝ) : EReal)) (V3_apply m d hm (ix1 r))
  rw [e]
  exact half_pos _

/-! ## The gathered rows -/

theorem T1_low (n : Fin 51200) (j : Fin 64) :
    T1 m d (ix2 (n0 := 51200) (n1 := 128) n ⟨j.val, by omega⟩) = some (A1 m d (ix2 (n0 := 100000) ⟨n.val, by omega⟩ j)) := by
  unfold T1 tgt1
  rw [dif_pos (show ((ix2 (n0 := 51200) (n1 := 128) n ⟨j.val, by omega⟩) 1).val < 64 from j.isLt)]
  exact congrArg some (V0_at m d j ⟨n.val, by omega⟩)

theorem T1_high (n : Fin 51200) (j : Fin 64) (h : n.val + 51200 < 100000) :
    T1 m d (ix2 (n0 := 51200) (n1 := 128) n ⟨64 + j.val, by omega⟩) = some (A1 m d (ix2 (n0 := 100000) ⟨n.val + 51200, h⟩ j)) := by
  unfold T1 tgt1
  rw [dif_neg (show ¬ ((ix2 (n0 := 51200) (n1 := 128) n ⟨64 + j.val, by omega⟩) 1).val < 64 from by show ¬ (64 + j.val < 64); omega),
    dif_pos (show ((ix2 (n0 := 51200) (n1 := 128) n ⟨64 + j.val, by omega⟩) 0).val + 51200 < 100000 from h)]
  refine congrArg some (Eq.trans ?_ (V0_at m d j ⟨n.val + 51200, h⟩))
  exact congrArg (fun c => (V0 m d : S64x100000.Idx → Ideal .f32) (ix2 c ⟨n.val + 51200, h⟩)) (Fin.ext (Nat.add_sub_cancel_left 64 j.val))

variable (V8 : Buf (Elt Ideal) (tl d main_v8))

theorem row_at (hm : PreOK m) (hV : Meets V8 (T8 m d)) (r : Fin 1024) (j : Fin 64) :
    (if 51200 ≤ (A0 m d (ix1 r)).toNat then ((V8 : S1024x128.Idx → Ideal .f32) (ix2 (n0 := 1024) (n1 := 128) r ⟨64 + j.val, by omega⟩) : EReal)
      else ((V8 : S1024x128.Idx → Ideal .f32) (ix2 (n0 := 1024) (n1 := 128) r ⟨j.val, by omega⟩) : EReal))
      = A1 m d (ix2 (n0 := 100000) ⟨(A0 m d (ix1 r)).toNat, hm d _⟩ j) := by
  have hlt := V7_lt m d hm (ix2 (n0 := 1) 0 r)
  have hn := V7_nat m d hm r
  have hw : (A0 m d (ix1 r)).toNat < 100000 := hm d _
  by_cases h : 51200 ≤ (A0 m d (ix1 r)).toNat
  · rw [if_pos h]
    rw [if_pos h] at hn
    have hb : (V7 m d (ix2 (n0 := 1) 0 r) : BitVec 32).toNat + 51200 = (A0 m d (ix1 r)).toNat := by
      rw [hn]; exact Nat.sub_add_cancel h
    refine hV (ix2 (n0 := 1024) (n1 := 128) r ⟨64 + j.val, by omega⟩) _ ?_
    refine (dif_pos hlt).trans ((T1_high m d ⟨_, hlt⟩ j (lt_of_eq_of_lt hb hw)).trans ?_)
    exact congrArg (fun n => some (A1 m d (ix2 (n0 := 100000) n j))) (Fin.ext hb)
  · rw [if_neg h]
    rw [if_neg h] at hn
    refine hV (ix2 (n0 := 1024) (n1 := 128) r ⟨j.val, by omega⟩) _ ?_
    refine (dif_pos hlt).trans ((T1_low m d ⟨_, hlt⟩ j).trans ?_)
    exact congrArg (fun n => some (A1 m d (ix2 (n0 := 100000) n j))) (Fin.ext hn)

/-! ## The layers and the result -/

/-- The row of the table that a word names. -/
abbrev xRow (hm : PreOK m) (r : Fin 1024) : Fin 64 → EReal := fun j => A1 m d (ix2 (n0 := 100000) ⟨(A0 m d (ix1 r)).toNat, hm d _⟩ j)
/-- Its hidden layer. -/
abbrev hRow (hm : PreOK m) (r : Fin 1024) : Fin 128 → EReal :=
  Math.hid (xRow m d hm r) (fun j k => A2 m d (ix2 j k)) (fun k => A3 m d (ix1 k))
/-- Its scores. -/
abbrev sRow (hm : PreOK m) (r : Fin 1024) : Fin 100000 → EReal :=
  Math.score (hRow m d hm r) (fun k v => A4 m d (ix2 k v)) (fun v => A5 m d (ix1 v))

theorem HID_at (hm : PreOK m) (hV : Meets V8 (T8 m d)) (k : Fin 128) (r : Fin 1024) :
    (HID m d V8 (ix2 k r) : EReal) = hRow m d hm r k := by
  unfold HID
  refine (hid_at V8 (V10 m d) (A2 m d) (V13 m d) k r).trans ?_
  refine congrArg₂ (fun a b : EReal => max (a + b) 0) (Finset.sum_congr rfl fun j _ => ?_) (V13_at m d k)
  refine Eq.trans (mul_comm _ _) (congrArg (fun z : EReal => z * (A2 m d (ix2 j k) : EReal)) ?_)
  refine Eq.trans ?_ (row_at m d V8 hm hV r j)
  exact if_congr (V10_at m d hm r) rfl rfl

theorem prod_at (hm : PreOK m) (hV : Meets V8 (T8 m d)) (v : Fin 100000) (r : Fin 1024) :
    (∑ k : Fin 128, (V11 m d (ix2 v k) : EReal) * (HID m d V8 (ix2 k r) : EReal))
      = ∑ k, hRow m d hm r k * (A4 m d (ix2 k v) : EReal) :=
  Finset.sum_congr rfl fun k _ => Eq.trans (mul_comm _ _) (congrArg₂ (fun a b : EReal => a * b) (HID_at m d V8 hm hV k r) (V11_at m d v k))

theorem LSE_at (hm : PreOK m) (hV : Meets V8 (T8 m d)) (r : Fin 1024) :
    (LSE m d V8 (ix2 (n0 := 1) (n1 := 1024) 0 r) : EReal)
      = ((16 : ℝ) : EReal) + Ideal.log (∑ u, Ideal.exp (sRow m d hm r u - ((16 : ℝ) : EReal))) := by
  unfold LSE lseOf
  refine (logs_at _ _).trans ?_
  rw [total_at (V11 m d) (V12 m d) (HID m d V8) r (fun u => Ideal.exp (sRow m d hm r u - ((16 : ℝ) : EReal)))]
  intro i q hq
  unfold term
  rw [prod_at m d V8 hm hV, V12_at m d i q hq]
  refine congrArg Ideal.exp ?_
  rw [sub_eq_add_neg, sub_eq_add_neg, ← add_assoc]
  rfl

/-- The kernel's result at an index. -/
theorem OUT_at (hm : PreOK m) (hV : Meets V8 (T8 m d)) (r : Fin 1024) (v : Fin 100000) :
    ((OUT m d V8 : S1024x100000.Idx → Ideal .f32) (ix2 r v) : EReal)
      = sRow m d hm r v - (((16 : ℝ) : EReal) + Ideal.log (∑ u, Ideal.exp (sRow m d hm r u - ((16 : ℝ) : EReal)))) := by
  unfold OUT
  refine (transpose_apply _ _ _ _ (ix2 v r) (by intro a; fin_cases a <;> rfl)).trans ?_
  refine (res_at _ _ _ _ ⟨v.val % 4000, Nat.mod_lt _ (by decide)⟩ r).trans ?_
  have hv : 4000 * (v.val / 4000) + v.val % 4000 = v.val := Nat.div_add_mod _ _
  refine congrArg₂ (fun a b : EReal => a - b) (congrArg₂ (fun a b : EReal => a + b) ?_ ?_) (LSE_at m d V8 hm hV r)
  · refine Eq.trans ?_ (prod_at m d V8 hm hV v r)
    refine Finset.sum_congr rfl fun k _ => congrArg (fun z : EReal => z * (HID m d V8 (ix2 k r) : EReal)) ?_
    exact congrArg (fun n : Fin 100000 => V11 m d (ix2 n k)) (Fin.ext hv)
  · refine (V12_at m d ⟨v.val / 4000, by omega⟩ ⟨v.val % 4000, Nat.mod_lt _ (by decide)⟩ (lt_of_eq_of_lt hv v.isLt)).trans ?_
    exact congrArg (fun n : Fin 100000 => A5 m d (ix1 n)) (Fin.ext hv)

end Val

end Cert.Proof

end
-- ==== Proof.Algebra.lean ====
/-
  The value claim: over the extended reals, under the range of the row numbers, the kernel's result is the reference's, word for
  word.
-/
module

public import proofs.«01_k».proof.Proof.Frames
public import proofs.«01_k».proof.Proof.KernelValue

@[expose] public section

noncomputable section

namespace Cert.Proof

open Cert.KernelIdeal Cert.KernelIdeal.Gen
open Idealize.ShloMosaic Idealize.ShloMosaic.TcCoe Idealize.SL.Sem
open Idealize.ShloMosaic.ValueIdx (ix1 ix2 eq_ix2)

/-- The reference's frame under the precondition. -/
theorem frame_ref_pre : Cert.quiescent_ReferenceIdeal_pre_indices_in_vocab := fun m ρ _ => frame_ref m ρ trivial

/-- The kernel's result is the reference's value of the same arguments. -/
theorem value_agrees (m : (ℓ : Loc nD τ sig) → Buf (Elt Ideal) ℓ) (d : Dev nD) (hm : PreOK (F := Ideal) m)
    (V8 : Buf (Elt Ideal) (tl d main_v8)) (hV : Meets V8 (T8 m d)) :
    (OUT m d V8 : S1024x100000.Idx → Ideal .f32)
      = Ref.resV (F := Ideal) (Val.A0 m d) (Val.A1 m d) (Val.A2 m d) (Val.A3 m d) (Val.A4 m d) (Val.A5 m d) := by
  funext j
  rw [eq_ix2 j]
  exact (Val.OUT_at m d V8 hm hV (j 0) (j 1)).trans
    (Ref.resV_at _ _ _ _ _ _ (hm d) (j 0) (j 1) (Val.sRow m d hm (j 0)) rfl).symm

theorem algebraic : Cert.algebraic_KernelIdeal_ReferenceIdeal := by
  intro m g m' g' hpre hagree
  have hm := ok_ideal m hpre
  refine ⟨fun c => Ref.resV (F := Ideal) (Val.A0 m c) (Val.A1 m c) (Val.A2 m c) (Val.A3 m c) (Val.A4 m c) (Val.A5 m c), ?_, ?_⟩
  · refine (θ_run Cert.KernelIdeal.defs _ _).mono (fun _ r c => ?_) (run_main m g hm)
    obtain ⟨h0, h1, h2, h3, h4, h5, V8, hV, hO⟩ := r.1 c
    exact ⟨hO.trans (value_agrees m c hm V8 hV), h0, h1, h2, h3, h4, h5⟩
  · refine (θ_run Cert.ReferenceIdeal.defs _ _).mono (fun _ r c => ?_) (run_ref m' g')
    obtain ⟨hO, h⟩ := r.1 c
    obtain ⟨e0, e1, e2, e3, e4, e5⟩ := hagree c
    refine ⟨hO.trans ?_, h⟩
    rw [e0, e1, e2, e3, e4, e5]

end Cert.Proof

end
-- ==== Proof.lean ====
/-
  The claims: the kernel's frame and the ideal kernel's, from one run over any floats; the reference's; that nothing was
  rewritten between the kernel and its ideal reading; and that the kernel and the reference compute the same function over the
  extended reals.
-/
module

public import proofs.«01_k».proof.Defs
public import proofs.«01_k».proof.Proof.Algebra

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_indices_in_vocab.Gen.facts,
    frame_kernel, frame_ideal, frame_ref, frame_ref_pre, trivial, algebraic⟩

end Cert.Proof

end
